-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_and_finite [hPre_ids_and_finite : Cert.Pre_ids_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_finite [hPre_ids_and_finite : Cert.Pre_ids_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_ids_and_finite [hKernelIdeal : Cert.KernelIdeal.Facts] [hPre_ids_and_finite : Cert.Pre_ids_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_ids_and_finite [hReferenceIdeal : Cert.ReferenceIdeal.Facts] [hPre_ids_and_finite : Cert.Pre_ids_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_ids_and_finite [hKernelIdeal : Cert.KernelIdeal.Facts] [hReferenceIdeal : Cert.ReferenceIdeal.Facts] [hPre_ids_and_finite : Cert.Pre_ids_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_ids_and_finite : Cert.Pre_ids_and_finite.Facts),
    quiescent_Kernel (hKernel := hKernel)
    ∧ quiescent_KernelIdeal (hKernelIdeal := hKernelIdeal)
    ∧ quiescent_KernelIdeal_pre_ids_and_finite (hKernelIdeal := hKernelIdeal) (hPre_ids_and_finite := hPre_ids_and_finite)
    ∧ quiescent_ReferenceIdeal (hReferenceIdeal := hReferenceIdeal)
    ∧ quiescent_ReferenceIdeal_pre_ids_and_finite (hReferenceIdeal := hReferenceIdeal) (hPre_ids_and_finite := hPre_ids_and_finite)
    ∧ preserves_Kernel_KernelIdeal
    ∧ algebraic_KernelIdeal_ReferenceIdeal_pre_ids_and_finite (hKernelIdeal := hKernelIdeal) (hReferenceIdeal := hReferenceIdeal) (hPre_ids_and_finite := hPre_ids_and_finite)
-- ==== Pre_ids_and_finite.lean ====
abbrev S16384x1165 : Shape := ⟨2, ![16384, 1165]⟩
abbrev S20x32 : Shape := ⟨2, ![20, 32]⟩
abbrev S10x32 : Shape := ⟨2, ![10, 32]⟩
abbrev S30x32 : Shape := ⟨2, ![30, 32]⟩
abbrev S4x4 : Shape := ⟨2, ![4, 4]⟩
abbrev S40x32 : Shape := ⟨2, ![40, 32]⟩
abbrev S37x37 : Shape := ⟨2, ![37, 37]⟩
abbrev S37 : Shape := ⟨1, ![37]⟩
abbrev S32x1000 : Shape := ⟨2, ![32, 1000]⟩
abbrev S32 : Shape := ⟨1, ![32]⟩
abbrev S32x50 : Shape := ⟨2, ![32, 50]⟩
abbrev S165x165 : Shape := ⟨2, ![165, 165]⟩
abbrev S165 : Shape := ⟨1, ![165]⟩
abbrev S16384x1 : Shape := ⟨2, ![16384, 1]⟩
abbrev S_ : Shape := ⟨0, ![]⟩
abbrev S16384x3 : Shape := ⟨2, ![16384, 3]⟩
abbrev S165x32 : Shape := ⟨2, ![165, 32]⟩

class Facts : Prop where
  slices_S16384x1165_S16384x1_0_0 : S16384x1165.Slices ![0, 0] S16384x1
  bcast_S_S16384x1 : S_.BroadcastsInDim S16384x1 (![] : Fin 0 → Fin S16384x1.rank)
  reducesTo_S16384x1_S_d0_1 : S16384x1.ReducesTo [0, 1] S_
  h_S_ : 0 < S_.numel
  slices_S16384x1165_S16384x1_0_1 : S16384x1165.Slices ![0, 1] S16384x1
  slices_S16384x1165_S16384x3_0_2 : S16384x1165.Slices ![0, 2] S16384x3
  bcast_S_S16384x3 : S_.BroadcastsInDim S16384x3 (![] : Fin 0 → Fin S16384x3.rank)
  reducesTo_S16384x3_S_d0_1 : S16384x3.ReducesTo [0, 1] S_
  slices_S16384x1165_S16384x3_0_5 : S16384x1165.Slices ![0, 5] S16384x3
  slices_S16384x1165_S16384x1_0_164 : S16384x1165.Slices ![0, 164] S16384x1
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  slices_S165x165_S165x32_0_101 : S165x165.Slices ![0, 101] S165x32
  bcast_S_S165x32 : S_.BroadcastsInDim S165x32 (![] : Fin 0 → Fin S165x32.rank)
  reducesTo_S165x32_S_d0_1 : S165x32.ReducesTo [0, 1] S_

variable [Facts]

def fn_part3 {F : FTy → Type} [FloatOps F] (main_arg11 : FVec F S32 .f32) (main_arg14 : FVec F S165x165 .f32) (main_v50 : IVec S_ 1) (main_v52 : IVec S32 1) : IVec S_ 1 :=
  let main_cst_17 : FVec F S_ .f32 := constant S_ .f32 0x7F800000#32
  let main_v53 : FVec F S32 .f32 := broadcastInDim S32 ![] bcast_S_S32 main_cst_17
  let main_v54 : IVec S32 1 := cmpf .olt main_arg11 main_v53
  let main_v55 : IVec S32 1 := andi main_v52 main_v54
  let main_c_18 : IVec S_ 1 := constantI S_ 1 1#1
  let main_v56 : IVec S_ 1 := (fun x v => Host.reduce IntOp.andi x v reducesTo_S32_S_d0 h_S_) main_v55 main_c_18
  let main_v57 : IVec S_ 1 := andi main_v50 main_v56
  let main_v58 : FVec F S165x32 .f32 := (extractStridedSlice S165x32 ![0, 101] · slices_S165x165_S165x32_0_101) main_arg14
  let main_cst_19 : FVec F S_ .f32 := constant S_ .f32 0xFF800000#32
  let main_v59 : FVec F S165x32 .f32 := broadcastInDim S165x32 ![] bcast_S_S165x32 main_cst_19
  let main_v60 : IVec S165x32 1 := cmpf .ogt main_v58 main_v59
  let main_cst_20 : FVec F S_ .f32 := constant S_ .f32 0x7F800000#32
  let main_v61 : FVec F S165x32 .f32 := broadcastInDim S165x32 ![] bcast_S_S165x32 main_cst_20
  let main_v62 : IVec S165x32 1 := cmpf .olt main_v58 main_v61
  let main_v63 : IVec S165x32 1 := andi main_v60 main_v62
  let main_c_21 : IVec S_ 1 := constantI S_ 1 1#1
  let main_v64 : IVec S_ 1 := (fun x v => Host.reduce IntOp.andi x v reducesTo_S165x32_S_d0_1 h_S_) main_v63 main_c_21
  let main_v65 : IVec S_ 1 := andi main_v57 main_v64
  main_v65

def fn_part2 {F : FTy → Type} [FloatOps F] (main_arg2 : FVec F S10x32 .f32) (main_arg11 : FVec F S32 .f32) (main_arg14 : FVec F S165x165 .f32) (main_v34 : IVec S_ 1) (main_v35 : FVec F S16384x1 .f32) : IVec S_ 1 :=
  let main_v36 : IVec S16384x1 32 := fptosi 32 main_v35
  let main_c_11 : IVec S_ 32 := constantI S_ 32 0#32
  let main_v37 : IVec S16384x1 32 := broadcastInDim S16384x1 ![] bcast_S_S16384x1 main_c_11
  let main_v38 : IVec S16384x1 1 := cmpi .sge main_v36 main_v37
  let main_c_12 : IVec S_ 32 := constantI S_ 32 10#32
  let main_v39 : IVec S16384x1 32 := broadcastInDim S16384x1 ![] bcast_S_S16384x1 main_c_12
  let main_v40 : IVec S16384x1 1 := cmpi .slt main_v36 main_v39
  let main_v41 : IVec S16384x1 1 := andi main_v38 main_v40
  let main_c_13 : IVec S_ 1 := constantI S_ 1 1#1
  let main_v42 : IVec S_ 1 := (fun x v => Host.reduce IntOp.andi x v reducesTo_S16384x1_S_d0_1 h_S_) main_v41 main_c_13
  let main_v43 : IVec S_ 1 := andi main_v34 main_v42
  let main_cst : FVec F S_ .f32 := constant S_ .f32 0xFF800000#32
  let main_v44 : FVec F S10x32 .f32 := broadcastInDim S10x32 ![] bcast_S_S10x32 main_cst
  let main_v45 : IVec S10x32 1 := cmpf .ogt main_arg2 main_v44
  let main_cst_14 : FVec F S_ .f32 := constant S_ .f32 0x7F800000#32
  let main_v46 : FVec F S10x32 .f32 := broadcastInDim S10x32 ![] bcast_S_S10x32 main_cst_14
  let main_v47 : IVec S10x32 1 := cmpf .olt main_arg2 main_v46
  let main_v48 : IVec S10x32 1 := andi main_v45 main_v47
  let main_c_15 : IVec S_ 1 := constantI S_ 1 1#1
  let main_v49 : IVec S_ 1 := (fun x v => Host.reduce IntOp.andi x v reducesTo_S10x32_S_d0_1 h_S_) main_v48 main_c_15
  let main_v50 : IVec S_ 1 := andi main_v43 main_v49
  let main_cst_16 : FVec F S_ .f32 := constant S_ .f32 0xFF800000#32
  let main_v51 : FVec F S32 .f32 := broadcastInDim S32 ![] bcast_S_S32 main_cst_16
  let main_v52 : IVec S32 1 := cmpf .ogt main_arg11 main_v51
  fn_part3 (F := F) main_arg11 main_arg14 main_v50 main_v52

def fn_part1 {F : FTy → Type} [FloatOps F] (main_arg0 : FVec F S16384x1165 .f32) (main_arg2 : FVec F S10x32 .f32) (main_arg11 : FVec F S32 .f32) (main_arg14 : FVec F S165x165 .f32) (main_v16 : IVec S_ 1) (main_v17 : FVec F S16384x3 .f32) : IVec S_ 1 :=
  let main_v18 : IVec S16384x3 32 := fptosi 32 main_v17
  let main_c_5 : IVec S_ 32 := constantI S_ 32 0#32
  let main_v19 : IVec S16384x3 32 := broadcastInDim S16384x3 ![] bcast_S_S16384x3 main_c_5
  let main_v20 : IVec S16384x3 1 := cmpi .sge main_v18 main_v19
  let main_c_6 : IVec S_ 32 := constantI S_ 32 30#32
  let main_v21 : IVec S16384x3 32 := broadcastInDim S16384x3 ![] bcast_S_S16384x3 main_c_6
  let main_v22 : IVec S16384x3 1 := cmpi .slt main_v18 main_v21
  let main_v23 : IVec S16384x3 1 := andi main_v20 main_v22
  let main_c_7 : IVec S_ 1 := constantI S_ 1 1#1
  let main_v24 : IVec S_ 1 := (fun x v => Host.reduce IntOp.andi x v reducesTo_S16384x3_S_d0_1 h_S_) main_v23 main_c_7
  let main_v25 : IVec S_ 1 := andi main_v16 main_v24
  let main_v26 : FVec F S16384x3 .f32 := (extractStridedSlice S16384x3 ![0, 5] · slices_S16384x1165_S16384x3_0_5) main_arg0
  let main_v27 : IVec S16384x3 32 := fptosi 32 main_v26
  let main_c_8 : IVec S_ 32 := constantI S_ 32 0#32
  let main_v28 : IVec S16384x3 32 := broadcastInDim S16384x3 ![] bcast_S_S16384x3 main_c_8
  let main_v29 : IVec S16384x3 1 := cmpi .sge main_v27 main_v28
  let main_c_9 : IVec S_ 32 := constantI S_ 32 4#32
  let main_v30 : IVec S16384x3 32 := broadcastInDim S16384x3 ![] bcast_S_S16384x3 main_c_9
  let main_v31 : IVec S16384x3 1 := cmpi .slt main_v27 main_v30
  let main_v32 : IVec S16384x3 1 := andi main_v29 main_v31
  let main_c_10 : IVec S_ 1 := constantI S_ 1 1#1
  let main_v33 : IVec S_ 1 := (fun x v => Host.reduce IntOp.andi x v reducesTo_S16384x3_S_d0_1 h_S_) main_v32 main_c_10
  let main_v34 : IVec S_ 1 := andi main_v25 main_v33
  let main_v35 : FVec F S16384x1 .f32 := (extractStridedSlice S16384x1 ![0, 164] · slices_S16384x1165_S16384x1_0_164) main_arg0
  fn_part2 (F := F) main_arg2 main_arg11 main_arg14 main_v34 main_v35

def fn {F : FTy → Type} [FloatOps F] (main_arg0 : FVec F S16384x1165 .f32) (main_arg1 : FVec F S20x32 .f32) (main_arg2 : FVec F S10x32 .f32) (main_arg3 : FVec F S30x32 .f32) (main_arg4 : FVec F S4x4 .f32) (main_arg5 : FVec F S40x32 .f32) (main_arg6 : FVec F S37x37 .f32) (main_arg7 : FVec F S37 .f32) (main_arg8 : FVec F S37x37 .f32) (main_arg9 : FVec F S37 .f32) (main_arg10 : FVec F S32x1000 .f32) (main_arg11 : FVec F S32 .f32) (main_arg12 : FVec F S32x50 .f32) (main_arg13 : FVec F S32 .f32) (main_arg14 : FVec F S165x165 .f32) (main_arg15 : FVec F S165 .f32) : IVec S_ 1 :=
  let main_v0 : FVec F S16384x1 .f32 := (extractStridedSlice S16384x1 ![0, 0] · slices_S16384x1165_S16384x1_0_0) main_arg0
  let main_v1 : IVec S16384x1 32 := fptosi 32 main_v0
  let main_c : IVec S_ 32 := constantI S_ 32 0#32
  let main_v2 : IVec S16384x1 32 := broadcastInDim S16384x1 ![] bcast_S_S16384x1 main_c
  let main_v3 : IVec S16384x1 1 := cmpi .sge main_v1 main_v2
  let main_c_0 : IVec S_ 32 := constantI S_ 32 20#32
  let main_v4 : IVec S16384x1 32 := broadcastInDim S16384x1 ![] bcast_S_S16384x1 main_c_0
  let main_v5 : IVec S16384x1 1 := cmpi .slt main_v1 main_v4
  let main_v6 : IVec S16384x1 1 := andi main_v3 main_v5
  let main_c_1 : IVec S_ 1 := constantI S_ 1 1#1
  let main_v7 : IVec S_ 1 := (fun x v => Host.reduce IntOp.andi x v reducesTo_S16384x1_S_d0_1 h_S_) main_v6 main_c_1
  let main_v8 : FVec F S16384x1 .f32 := (extractStridedSlice S16384x1 ![0, 1] · slices_S16384x1165_S16384x1_0_1) main_arg0
  let main_v9 : IVec S16384x1 32 := fptosi 32 main_v8
  let main_c_2 : IVec S_ 32 := constantI S_ 32 0#32
  let main_v10 : IVec S16384x1 32 := broadcastInDim S16384x1 ![] bcast_S_S16384x1 main_c_2
  let main_v11 : IVec S16384x1 1 := cmpi .sge main_v9 main_v10
  let main_c_3 : IVec S_ 32 := constantI S_ 32 40#32
  let main_v12 : IVec S16384x1 32 := broadcastInDim S16384x1 ![] bcast_S_S16384x1 main_c_3
  let main_v13 : IVec S16384x1 1 := cmpi .slt main_v9 main_v12
  let main_v14 : IVec S16384x1 1 := andi main_v11 main_v13
  let main_c_4 : IVec S_ 1 := constantI S_ 1 1#1
  let main_v15 : IVec S_ 1 := (fun x v => Host.reduce IntOp.andi x v reducesTo_S16384x1_S_d0_1 h_S_) main_v14 main_c_4
  let main_v16 : IVec S_ 1 := andi main_v7 main_v15
  let main_v17 : FVec F S16384x3 .f32 := (extractStridedSlice S16384x3 ![0, 2] · slices_S16384x1165_S16384x3_0_2) main_arg0
  fn_part1 (F := F) main_arg0 main_arg2 main_arg11 main_arg14 main_v16 main_v17
-- ==== Kernel.lean ====
abbrev S16384x1165 : Shape := ⟨2, ![16384, 1165]⟩
abbrev S20x32 : Shape := ⟨2, ![20, 32]⟩
abbrev S10x32 : Shape := ⟨2, ![10, 32]⟩
abbrev S30x32 : Shape := ⟨2, ![30, 32]⟩
abbrev S4x4 : Shape := ⟨2, ![4, 4]⟩
abbrev S40x32 : Shape := ⟨2, ![40, 32]⟩
abbrev S37x37 : Shape := ⟨2, ![37, 37]⟩
abbrev S37 : Shape := ⟨1, ![37]⟩
abbrev S32x1000 : Shape := ⟨2, ![32, 1000]⟩
abbrev S32 : Shape := ⟨1, ![32]⟩
abbrev S32x50 : Shape := ⟨2, ![32, 50]⟩
abbrev S165x165 : Shape := ⟨2, ![165, 165]⟩
abbrev S165 : Shape := ⟨1, ![165]⟩
abbrev S1165x16384 : Shape := ⟨2, ![1165, 16384]⟩
abbrev S165x16384 : Shape := ⟨2, ![165, 16384]⟩
abbrev S16384x165 : Shape := ⟨2, ![16384, 165]⟩
abbrev S1165x2048 : Shape := ⟨2, ![1165, 2048]⟩
abbrev S165x2048 : Shape := ⟨2, ![165, 2048]⟩
abbrev S111x102 : Shape := ⟨2, ![111, 102]⟩
abbrev S111x4 : Shape := ⟨2, ![111, 4]⟩
abbrev S111x112 : Shape := ⟨2, ![111, 112]⟩
abbrev S128x1166 : Shape := ⟨2, ![128, 1166]⟩
abbrev S165x70 : Shape := ⟨2, ![165, 70]⟩
abbrev S165x37 : Shape := ⟨2, ![165, 37]⟩
abbrev S165x32 : Shape := ⟨2, ![165, 32]⟩
abbrev S165x33 : Shape := ⟨2, ![165, 33]⟩
abbrev S37x32 : Shape := ⟨2, ![37, 32]⟩
abbrev S37x30 : Shape := ⟨2, ![37, 30]⟩
abbrev S37x4 : Shape := ⟨2, ![37, 4]⟩
abbrev S37x1 : Shape := ⟨2, ![37, 1]⟩
abbrev S1x37 : Shape := ⟨2, ![1, 37]⟩
abbrev S150x50 : Shape := ⟨2, ![150, 50]⟩
abbrev S1x32 : Shape := ⟨2, ![1, 32]⟩
abbrev S32x32 : Shape := ⟨2, ![32, 32]⟩
abbrev S32x1 : Shape := ⟨2, ![32, 1]⟩
abbrev S32x150 : Shape := ⟨2, ![32, 150]⟩
abbrev S165x20 : Shape := ⟨2, ![165, 20]⟩
abbrev S165x40 : Shape := ⟨2, ![165, 40]⟩
abbrev S165x10 : Shape := ⟨2, ![165, 10]⟩
abbrev S1x165 : Shape := ⟨2, ![1, 165]⟩
abbrev S165x1 : Shape := ⟨2, ![165, 1]⟩
abbrev S1x2048 : Shape := ⟨2, ![1, 2048]⟩
abbrev S3x2048 : Shape := ⟨2, ![3, 2048]⟩
abbrev S102x2048 : Shape := ⟨2, ![102, 2048]⟩
abbrev S4x2048 : Shape := ⟨2, ![4, 2048]⟩
abbrev S111x2048 : Shape := ⟨2, ![111, 2048]⟩
abbrev S112x2048 : Shape := ⟨2, ![112, 2048]⟩
abbrev S37x2048 : Shape := ⟨2, ![37, 2048]⟩
abbrev S1166x2048 : Shape := ⟨2, ![1166, 2048]⟩
abbrev S128x2048 : Shape := ⟨2, ![128, 2048]⟩
abbrev S32x2048 : Shape := ⟨2, ![32, 2048]⟩
abbrev S70x2048 : Shape := ⟨2, ![70, 2048]⟩
abbrev S33x2048 : Shape := ⟨2, ![33, 2048]⟩

abbrev nBuf : Space → Nat
  | .hbm => 19
  | .vmem => 27
  | .smem => 0
  | _ => 0

abbrev bufTy : (tb : Table) → Fin (tcTables nBuf tb) → BufTy
  | .hbm, ⟨0, _⟩ => ⟨S16384x1165, .f32⟩
  | .hbm, ⟨1, _⟩ => ⟨S20x32, .f32⟩
  | .hbm, ⟨2, _⟩ => ⟨S10x32, .f32⟩
  | .hbm, ⟨3, _⟩ => ⟨S30x32, .f32⟩
  | .hbm, ⟨4, _⟩ => ⟨S4x4, .f32⟩
  | .hbm, ⟨5, _⟩ => ⟨S40x32, .f32⟩
  | .hbm, ⟨6, _⟩ => ⟨S37x37, .f32⟩
  | .hbm, ⟨7, _⟩ => ⟨S37, .f32⟩
  | .hbm, ⟨8, _⟩ => ⟨S37x37, .f32⟩
  | .hbm, ⟨9, _⟩ => ⟨S37, .f32⟩
  | .hbm, ⟨10, _⟩ => ⟨S32x1000, .f32⟩
  | .hbm, ⟨11, _⟩ => ⟨S32, .f32⟩
  | .hbm, ⟨12, _⟩ => ⟨S32x50, .f32⟩
  | .hbm, ⟨13, _⟩ => ⟨S32, .f32⟩
  | .hbm, ⟨14, _⟩ => ⟨S165x165, .f32⟩
  | .hbm, ⟨15, _⟩ => ⟨S165, .f32⟩
  | .hbm, ⟨16, _⟩ => ⟨S1165x16384, .f32⟩
  | .hbm, ⟨17, _⟩ => ⟨S165x16384, .f32⟩
  | .hbm, ⟨18, _⟩ => ⟨S16384x165, .f32⟩
  | .local _ .vmem, ⟨0, _⟩ => ⟨S1165x2048, .f32⟩
  | .local _ .vmem, ⟨1, _⟩ => ⟨S1165x2048, .f32⟩
  | .local _ .vmem, ⟨2, _⟩ => ⟨S20x32, .f32⟩
  | .local _ .vmem, ⟨3, _⟩ => ⟨S10x32, .f32⟩
  | .local _ .vmem, ⟨4, _⟩ => ⟨S30x32, .f32⟩
  | .local _ .vmem, ⟨5, _⟩ => ⟨S4x4, .f32⟩
  | .local _ .vmem, ⟨6, _⟩ => ⟨S40x32, .f32⟩
  | .local _ .vmem, ⟨7, _⟩ => ⟨S37x37, .f32⟩
  | .local _ .vmem, ⟨8, _⟩ => ⟨S37, .f32⟩
  | .local _ .vmem, ⟨9, _⟩ => ⟨S37x37, .f32⟩
  | .local _ .vmem, ⟨10, _⟩ => ⟨S37, .f32⟩
  | .local _ .vmem, ⟨11, _⟩ => ⟨S32x1000, .f32⟩
  | .local _ .vmem, ⟨12, _⟩ => ⟨S32, .f32⟩
  | .local _ .vmem, ⟨13, _⟩ => ⟨S32x50, .f32⟩
  | .local _ .vmem, ⟨14, _⟩ => ⟨S32, .f32⟩
  | .local _ .vmem, ⟨15, _⟩ => ⟨S165x165, .f32⟩
  | .local _ .vmem, ⟨16, _⟩ => ⟨S165, .f32⟩
  | .local _ .vmem, ⟨17, _⟩ => ⟨S165x2048, .f32⟩
  | .local _ .vmem, ⟨18, _⟩ => ⟨S165x2048, .f32⟩
  | .local _ .vmem, ⟨19, _⟩ => ⟨S111x102, .f32⟩
  | .local _ .vmem, ⟨20, _⟩ => ⟨S111x4, .f32⟩
  | .local _ .vmem, ⟨21, _⟩ => ⟨S111x112, .f32⟩
  | .local _ .vmem, ⟨22, _⟩ => ⟨S128x1166, .f32⟩
  | .local _ .vmem, ⟨23, _⟩ => ⟨S165x70, .f32⟩
  | .local _ .vmem, ⟨24, _⟩ => ⟨S165x37, .f32⟩
  | .local _ .vmem, ⟨25, _⟩ => ⟨S165x32, .f32⟩
  | .local _ .vmem, ⟨26, _⟩ => ⟨S165x33, .f32⟩
  | _, _ => ⟨S16384x1165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1165x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S37x37 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S37 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S37x37 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S37 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x50 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S165x165 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S165 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S165x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x1165 : Shape := ⟨2, ![16384, 1165]⟩
abbrev S20x32 : Shape := ⟨2, ![20, 32]⟩
abbrev S10x32 : Shape := ⟨2, ![10, 32]⟩
abbrev S30x32 : Shape := ⟨2, ![30, 32]⟩
abbrev S4x4 : Shape := ⟨2, ![4, 4]⟩
abbrev S40x32 : Shape := ⟨2, ![40, 32]⟩
abbrev S37x37 : Shape := ⟨2, ![37, 37]⟩
abbrev S37 : Shape := ⟨1, ![37]⟩
abbrev S32x1000 : Shape := ⟨2, ![32, 1000]⟩
abbrev S32 : Shape := ⟨1, ![32]⟩
abbrev S32x50 : Shape := ⟨2, ![32, 50]⟩
abbrev S165x165 : Shape := ⟨2, ![165, 165]⟩
abbrev S165 : Shape := ⟨1, ![165]⟩
abbrev S16384x1 : Shape := ⟨2, ![16384, 1]⟩
abbrev S16384x9 : Shape := ⟨2, ![16384, 9]⟩
abbrev S16384x3 : Shape := ⟨2, ![16384, 3]⟩
abbrev S16384x150 : Shape := ⟨2, ![16384, 150]⟩
abbrev S16384x1001 : Shape := ⟨2, ![16384, 1001]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x1x32 : Shape := ⟨3, ![16384, 1, 32]⟩
abbrev S16384x32 : Shape := ⟨2, ![16384, 32]⟩
abbrev S16384x3x3 : Shape := ⟨3, ![16384, 3, 3]⟩
abbrev S16384x3x1 : Shape := ⟨3, ![16384, 3, 1]⟩
abbrev S16384x3x32 : Shape := ⟨3, ![16384, 3, 32]⟩
abbrev S16384x3x4 : Shape := ⟨3, ![16384, 3, 4]⟩
abbrev S16384x3x37 : Shape := ⟨3, ![16384, 3, 37]⟩
abbrev S1x1x37 : Shape := ⟨3, ![1, 1, 37]⟩
abbrev S16384 : Shape := ⟨1, ![16384]⟩
abbrev S16384x37 : Shape := ⟨2, ![16384, 37]⟩
abbrev S16384x50x3 : Shape := ⟨3, ![16384, 50, 3]⟩
abbrev S16384x3x50 : Shape := ⟨3, ![16384, 3, 50]⟩
abbrev S50x32 : Shape := ⟨2, ![50, 32]⟩
abbrev S1x1x32 : Shape := ⟨3, ![1, 1, 32]⟩
abbrev S16384x1000 : Shape := ⟨2, ![16384, 1000]⟩
abbrev S1000x32 : Shape := ⟨2, ![1000, 32]⟩
abbrev S1x32 : Shape := ⟨2, ![1, 32]⟩
abbrev S16384x165 : Shape := ⟨2, ![16384, 165]⟩
abbrev S1x165 : Shape := ⟨2, ![1, 165]⟩

abbrev nBuf : Space → Nat
  | .hbm => 233
  | .vmem => 0
  | .smem => 0
  | _ => 0

abbrev hbmTy0_0 (i : Nat) : BufTy := match i % 128 with
  | 0 => ⟨S16384x1165, .f32⟩
  | 1 => ⟨S20x32, .f32⟩
  | 2 => ⟨S10x32, .f32⟩
  | 3 => ⟨S30x32, .f32⟩
  | 4 => ⟨S4x4, .f32⟩
  | 5 => ⟨S40x32, .f32⟩
  | 6 => ⟨S37x37, .f32⟩
  | 7 => ⟨S37, .f32⟩
  | 8 => ⟨S37x37, .f32⟩
  | 9 => ⟨S37, .f32⟩
  | 10 => ⟨S32x1000, .f32⟩
  | 11 => ⟨S32, .f32⟩
  | 12 => ⟨S32x50, .f32⟩
  | 13 => ⟨S32, .f32⟩
  | 14 => ⟨S165x165, .f32⟩
  | 15 => ⟨S165, .f32⟩
  | 16 => ⟨S16384x1, .f32⟩
  | 17 => ⟨S16384x1, .f32⟩
  | 18 => ⟨S16384x9, .f32⟩
  | 19 => ⟨S16384x3, .f32⟩
  | 20 => ⟨S16384x150, .f32⟩
  | 21 => ⟨S16384x1001, .f32⟩
  | 22 => ⟨S16384x1, .i32⟩
  | 23 => ⟨S_, .i32⟩
  | 24 => ⟨S16384x1, .i32⟩
  | 25 => ⟨S16384x1, .i1⟩
  | 26 => ⟨S_, .i32⟩
  | 27 => ⟨S16384x1, .i32⟩
  | 28 => ⟨S16384x1, .i32⟩
  | 29 => ⟨S16384x1, .i32⟩
  | 30 => ⟨S16384x1x1, .i32⟩
  | 31 => ⟨S1, .i32⟩
  | 32 => ⟨S_, .i32⟩
  | 33 => ⟨S16384x1x1, .i32⟩
  | 34 => ⟨S16384x1x1, .i1⟩
  | 35 => ⟨S1x1x1, .i32⟩
  | 36 => ⟨S16384x1x1, .i32⟩
  | 37 => ⟨S16384x1x1, .i1⟩
  | 38 => ⟨S16384x1x1, .i1⟩
  | 39 => ⟨S_, .i1⟩
  | 40 => ⟨S16384x1, .i1⟩
  | 41 => ⟨S16384x1x32, .f32⟩
  | 42 => ⟨S16384x1x32, .i1⟩
  | 43 => ⟨S_, .f32⟩
  | 44 => ⟨S16384x1x32, .f32⟩
  | 45 => ⟨S16384x1x32, .f32⟩
  | 46 => ⟨S16384x32, .f32⟩
  | 47 => ⟨S16384x1, .i32⟩
  | 48 => ⟨S_, .i32⟩
  | 49 => ⟨S16384x1, .i32⟩
  | 50 => ⟨S16384x1, .i1⟩
  | 51 => ⟨S_, .i32⟩
  | 52 => ⟨S16384x1, .i32⟩
  | 53 => ⟨S16384x1, .i32⟩
  | 54 => ⟨S16384x1, .i32⟩
  | 55 => ⟨S16384x1x1, .i32⟩
  | 56 => ⟨S1, .i32⟩
  | 57 => ⟨S_, .i32⟩
  | 58 => ⟨S16384x1x1, .i32⟩
  | 59 => ⟨S16384x1x1, .i1⟩
  | 60 => ⟨S1x1x1, .i32⟩
  | 61 => ⟨S16384x1x1, .i32⟩
  | 62 => ⟨S16384x1x1, .i1⟩
  | 63 => ⟨S16384x1x1, .i1⟩
  | 64 => ⟨S_, .i1⟩
  | 65 => ⟨S16384x1, .i1⟩
  | 66 => ⟨S16384x1x32, .f32⟩
  | 67 => ⟨S16384x1x32, .i1⟩
  | 68 => ⟨S_, .f32⟩
  | 69 => ⟨S16384x1x32, .f32⟩
  | 70 => ⟨S16384x1x32, .f32⟩
  | 71 => ⟨S16384x32, .f32⟩
  | 72 => ⟨S16384x3x3, .f32⟩
  | 73 => ⟨S16384x3x3, .f32⟩
  | 74 => ⟨S16384x3x1, .f32⟩
  | 75 => ⟨S16384x3, .f32⟩
  | 76 => ⟨S16384x3, .i32⟩
  | 77 => ⟨S16384x3x1, .f32⟩
  | 78 => ⟨S16384x3, .f32⟩
  | 79 => ⟨S16384x3, .i32⟩
  | 80 => ⟨S16384x3x1, .f32⟩
  | 81 => ⟨S_, .i32⟩
  | 82 => ⟨S16384x3, .i32⟩
  | 83 => ⟨S16384x3, .i1⟩
  | 84 => ⟨S_, .i32⟩
  | 85 => ⟨S16384x3, .i32⟩
  | 86 => ⟨S16384x3, .i32⟩
  | 87 => ⟨S16384x3, .i32⟩
  | 88 => ⟨S16384x3x1, .i32⟩
  | 89 => ⟨S1, .i32⟩
  | 90 => ⟨S_, .i32⟩
  | 91 => ⟨S16384x3x1, .i32⟩
  | 92 => ⟨S16384x3x1, .i1⟩
  | 93 => ⟨S1x1x1, .i32⟩
  | 94 => ⟨S16384x3x1, .i32⟩
  | 95 => ⟨S16384x3x1, .i1⟩
  | 96 => ⟨S16384x3x1, .i1⟩
  | 97 => ⟨S_, .i1⟩
  | 98 => ⟨S16384x3, .i1⟩
  | 99 => ⟨S16384x3x32, .f32⟩
  | 100 => ⟨S16384x3x32, .i1⟩
  | 101 => ⟨S_, .f32⟩
  | 102 => ⟨S16384x3x32, .f32⟩
  | 103 => ⟨S16384x3x32, .f32⟩
  | 104 => ⟨S_, .i32⟩
  | 105 => ⟨S16384x3, .i32⟩
  | 106 => ⟨S16384x3, .i1⟩
  | 107 => ⟨S_, .i32⟩
  | 108 => ⟨S16384x3, .i32⟩
  | 109 => ⟨S16384x3, .i32⟩
  | 110 => ⟨S16384x3, .i32⟩
  | 111 => ⟨S16384x3x1, .i32⟩
  | 112 => ⟨S1, .i32⟩
  | 113 => ⟨S_, .i32⟩
  | 114 => ⟨S16384x3x1, .i32⟩
  | 115 => ⟨S16384x3x1, .i1⟩
  | 116 => ⟨S1x1x1, .i32⟩
  | 117 => ⟨S16384x3x1, .i32⟩
  | 118 => ⟨S16384x3x1, .i1⟩
  | 119 => ⟨S16384x3x1, .i1⟩
  | 120 => ⟨S_, .i1⟩
  | 121 => ⟨S16384x3, .i1⟩
  | 122 => ⟨S16384x3x4, .f32⟩
  | 123 => ⟨S16384x3x4, .i1⟩
  | 124 => ⟨S_, .f32⟩
  | 125 => ⟨S16384x3x4, .f32⟩
  | 126 => ⟨S16384x3x4, .f32⟩
  | 127 => ⟨S16384x3x37, .f32⟩
  | _ => ⟨S16384x1165, .f32⟩

abbrev hbmTy0_1 (i : Nat) : BufTy := match i % 128 with
  | 0 => ⟨S37x37, .f32⟩
  | 1 => ⟨S16384x3x37, .f32⟩
  | 2 => ⟨S1x1x37, .f32⟩
  | 3 => ⟨S16384x3x37, .f32⟩
  | 4 => ⟨S16384x3x37, .f32⟩
  | 5 => ⟨S_, .f32⟩
  | 6 => ⟨S16384x3x37, .f32⟩
  | 7 => ⟨S16384x3x37, .i1⟩
  | 8 => ⟨S_, .f32⟩
  | 9 => ⟨S16384x3x37, .f32⟩
  | 10 => ⟨S16384x3x37, .f32⟩
  | 11 => ⟨S16384x3x37, .f32⟩
  | 12 => ⟨S37x37, .f32⟩
  | 13 => ⟨S16384x3x37, .f32⟩
  | 14 => ⟨S1x1x37, .f32⟩
  | 15 => ⟨S16384x3x37, .f32⟩
  | 16 => ⟨S16384x3x37, .f32⟩
  | 17 => ⟨S_, .f32⟩
  | 18 => ⟨S16384x3x37, .f32⟩
  | 19 => ⟨S16384x3x37, .i1⟩
  | 20 => ⟨S_, .f32⟩
  | 21 => ⟨S16384x3x37, .f32⟩
  | 22 => ⟨S16384x3x37, .f32⟩
  | 23 => ⟨S16384x3x37, .f32⟩
  | 24 => ⟨S_, .f32⟩
  | 25 => ⟨S16384x3, .f32⟩
  | 26 => ⟨S16384x3, .i1⟩
  | 27 => ⟨S16384x3, .i1⟩
  | 28 => ⟨S16384x3x1, .i1⟩
  | 29 => ⟨S_, .f32⟩
  | 30 => ⟨S_, .f32⟩
  | 31 => ⟨S16384x3x37, .i1⟩
  | 32 => ⟨S16384x3x37, .f32⟩
  | 33 => ⟨S16384x3x37, .f32⟩
  | 34 => ⟨S_, .f32⟩
  | 35 => ⟨S16384, .f32⟩
  | 36 => ⟨S_, .f32⟩
  | 37 => ⟨S16384x37, .f32⟩
  | 38 => ⟨S16384x1, .f32⟩
  | 39 => ⟨S16384x37, .f32⟩
  | 40 => ⟨S16384x37, .f32⟩
  | 41 => ⟨S16384x50x3, .f32⟩
  | 42 => ⟨S16384x3x50, .f32⟩
  | 43 => ⟨S50x32, .f32⟩
  | 44 => ⟨S16384x3x32, .f32⟩
  | 45 => ⟨S1x1x32, .f32⟩
  | 46 => ⟨S16384x3x32, .f32⟩
  | 47 => ⟨S16384x3x32, .f32⟩
  | 48 => ⟨S16384x3x1, .i1⟩
  | 49 => ⟨S_, .f32⟩
  | 50 => ⟨S_, .f32⟩
  | 51 => ⟨S16384x3x32, .i1⟩
  | 52 => ⟨S16384x3x32, .f32⟩
  | 53 => ⟨S16384x3x32, .f32⟩
  | 54 => ⟨S_, .f32⟩
  | 55 => ⟨S16384x32, .f32⟩
  | 56 => ⟨S16384x1, .f32⟩
  | 57 => ⟨S16384x32, .f32⟩
  | 58 => ⟨S16384x32, .f32⟩
  | 59 => ⟨S16384x1, .f32⟩
  | 60 => ⟨S16384x1000, .f32⟩
  | 61 => ⟨S16384x1, .i32⟩
  | 62 => ⟨S_, .i32⟩
  | 63 => ⟨S16384x1, .i32⟩
  | 64 => ⟨S16384x1, .i1⟩
  | 65 => ⟨S_, .i32⟩
  | 66 => ⟨S16384x1, .i32⟩
  | 67 => ⟨S16384x1, .i32⟩
  | 68 => ⟨S16384x1, .i32⟩
  | 69 => ⟨S16384x1x1, .i32⟩
  | 70 => ⟨S1, .i32⟩
  | 71 => ⟨S_, .i32⟩
  | 72 => ⟨S16384x1x1, .i32⟩
  | 73 => ⟨S16384x1x1, .i1⟩
  | 74 => ⟨S1x1x1, .i32⟩
  | 75 => ⟨S16384x1x1, .i32⟩
  | 76 => ⟨S16384x1x1, .i1⟩
  | 77 => ⟨S16384x1x1, .i1⟩
  | 78 => ⟨S_, .i1⟩
  | 79 => ⟨S16384x1, .i1⟩
  | 80 => ⟨S16384x1x32, .f32⟩
  | 81 => ⟨S16384x1x32, .i1⟩
  | 82 => ⟨S_, .f32⟩
  | 83 => ⟨S16384x1x32, .f32⟩
  | 84 => ⟨S16384x1x32, .f32⟩
  | 85 => ⟨S16384x32, .f32⟩
  | 86 => ⟨S1000x32, .f32⟩
  | 87 => ⟨S16384x32, .f32⟩
  | 88 => ⟨S1x32, .f32⟩
  | 89 => ⟨S16384x32, .f32⟩
  | 90 => ⟨S16384x32, .f32⟩
  | 91 => ⟨S16384x32, .f32⟩
  | 92 => ⟨S16384x165, .f32⟩
  | 93 => ⟨S165x165, .f32⟩
  | 94 => ⟨S16384x165, .f32⟩
  | 95 => ⟨S1x165, .f32⟩
  | 96 => ⟨S16384x165, .f32⟩
  | 97 => ⟨S16384x165, .f32⟩
  | 98 => ⟨S_, .f32⟩
  | 99 => ⟨S16384x165, .f32⟩
  | 100 => ⟨S16384x165, .i1⟩
  | 101 => ⟨S_, .f32⟩
  | 102 => ⟨S16384x165, .f32⟩
  | 103 => ⟨S16384x165, .f32⟩
  | 104 => ⟨S16384x165, .f32⟩
  | _ => ⟨S16384x1165, .f32⟩

abbrev hbmTy (i : Nat) : BufTy := match i / 128 with
  | 0 => hbmTy0_0 i
  | 1 => hbmTy0_1 i
  | _ => ⟨S16384x1165, .f32⟩

abbrev bufTy : (tb : Table) → Fin (tcTables nBuf tb) → BufTy
  | .hbm, ⟨i, _⟩ => hbmTy i
  | _, _ => ⟨S16384x1165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v21 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_c_1 : Ref sig .tc := ⟨.hbm, 112, rfl⟩
abbrev main_call3_c_2 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_3 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_call3_cst : Ref sig .tc := ⟨.hbm, 124, rfl⟩
abbrev main_call3_v15 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_cst : Ref sig .tc := ⟨.hbm, 133, rfl⟩
abbrev main_v29 : Ref sig .tc := ⟨.hbm, 134, rfl⟩
abbrev main_v30 : Ref sig .tc := ⟨.hbm, 135, rfl⟩
abbrev main_cst_0 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_cst_1 : Ref sig .tc := ⟨.hbm, 145, rfl⟩
abbrev main_v39 : Ref sig .tc := ⟨.hbm, 146, rfl⟩
abbrev main_v40 : Ref sig .tc := ⟨.hbm, 147, rfl⟩
abbrev main_cst_2 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_cst_3 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_cst_4 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v48 : Ref sig .tc := ⟨.hbm, 161, rfl⟩
abbrev main_cst_5 : Ref sig .tc := ⟨.hbm, 162, rfl⟩
abbrev main_v49 : Ref sig .tc := ⟨.hbm, 163, rfl⟩
abbrev main_cst_6 : Ref sig .tc := ⟨.hbm, 164, rfl⟩
abbrev main_v50 : Ref sig .tc := ⟨.hbm, 165, rfl⟩
abbrev main_v51 : Ref sig .tc := ⟨.hbm, 166, rfl⟩
abbrev main_v52 : Ref sig .tc := ⟨.hbm, 167, rfl⟩
abbrev main_v53 : Ref sig .tc := ⟨.hbm, 168, rfl⟩
abbrev main_v54 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_v58 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_cst_7 : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_v62 : Ref sig .tc := ⟨.hbm, 181, rfl⟩
abbrev main_cst_8 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_v69 : Ref sig .tc := ⟨.hbm, 189, rfl⟩
abbrev main_call8_c : Ref sig .tc := ⟨.hbm, 190, rfl⟩
abbrev main_call8_v0 : Ref sig .tc := ⟨.hbm, 191, rfl⟩
abbrev main_call8_v1 : Ref sig .tc := ⟨.hbm, 192, rfl⟩
abbrev main_call8_c_0 : Ref sig .tc := ⟨.hbm, 193, rfl⟩
abbrev main_call8_v2 : Ref sig .tc := ⟨.hbm, 194, rfl⟩
abbrev main_call8_v3 : Ref sig .tc := ⟨.hbm, 195, rfl⟩
abbrev main_call8_v4 : Ref sig .tc := ⟨.hbm, 196, rfl⟩
abbrev main_call8_v5 : Ref sig .tc := ⟨.hbm, 197, rfl⟩
abbrev main_call8_c_1 : Ref sig .tc := ⟨.hbm, 198, rfl⟩
abbrev main_call8_c_2 : Ref sig .tc := ⟨.hbm, 199, rfl⟩
abbrev main_call8_v6 : Ref sig .tc := ⟨.hbm, 200, rfl⟩
abbrev main_call8_v7 : Ref sig .tc := ⟨.hbm, 201, rfl⟩
abbrev main_call8_v8 : Ref sig .tc := ⟨.hbm, 202, rfl⟩
abbrev main_call8_v9 : Ref sig .tc := ⟨.hbm, 203, rfl⟩
abbrev main_call8_v10 : Ref sig .tc := ⟨.hbm, 204, rfl⟩
abbrev main_call8_v11 : Ref sig .tc := ⟨.hbm, 205, rfl⟩
abbrev main_call8_c_3 : Ref sig .tc := ⟨.hbm, 206, rfl⟩
abbrev main_call8_v12 : Ref sig .tc := ⟨.hbm, 207, rfl⟩
abbrev main_call8_v13 : Ref sig .tc := ⟨.hbm, 208, rfl⟩
abbrev main_call8_v14 : Ref sig .tc := ⟨.hbm, 209, rfl⟩
abbrev main_call8_cst : Ref sig .tc := ⟨.hbm, 210, rfl⟩
abbrev main_call8_v15 : Ref sig .tc := ⟨.hbm, 211, rfl⟩
abbrev main_v70 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_v77 : Ref sig .tc := ⟨.hbm, 219, rfl⟩
abbrev main_v78 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_cst_9 : Ref sig .tc := ⟨.hbm, 226, rfl⟩
abbrev main_v84 : Ref sig .tc := ⟨.hbm, 227, rfl⟩
abbrev main_v85 : Ref sig .tc := ⟨.hbm, 228, rfl⟩
abbrev main_cst_10 : Ref sig .tc := ⟨.hbm, 229, rfl⟩
abbrev main_v86 : Ref sig .tc := ⟨.hbm, 230, rfl⟩
abbrev main_v87 : Ref sig .tc := ⟨.hbm, 231, rfl⟩
abbrev main_v88 : Ref sig .tc := ⟨.hbm, 232, rfl⟩

abbrev nD : Nat := 1
abbrev τ : Topo := Topo.v7x

variable {F : FTy → Type} [FloatOps F]
-- ==== Proof.Scratch.lean ====
module

public import proofs.«01_k».proof.Proof.Gen.KernelIdeal.Frame

@[expose] public section

set_option maxRecDepth 16384

noncomputable section

open Idealize.ShloMosaic Idealize.SL.Sem

namespace Cert.KernelIdeal.Gen

variable {F : FTy → Type} [FloatOps F]

/-! # What the kernel builds once, and what it computes from that

The first grid point lays the weights out in eight scratch matrices; every point then turns its block of
feature columns into a block of the result with those eight matrices. Here both are plain functions of the
weights and of the feature block. A scratch matrix is its stores laid over one another, the latest first. -/

/-- The filter layer's weights against every id: three diagonal blocks for the column ids, three for the
operation ids. -/
def scr0 (wf : Vec F S37x37 .f32) (ce : Vec F S30x32 .f32) (oe : Vec F S4x4 .f32) : Vec F S111x102 .f32 :=
  View.canon (Val := Elt F) (s := S111x102) (e := .f32)
    [⟨Rect.unit ![74, 98] ![37, 4] inb_S111x102_S37x4_74_98, k0_pay10 (k0_pay3 wf oe)⟩,
     ⟨Rect.unit ![37, 94] ![37, 4] inb_S111x102_S37x4_37_94, k0_pay9 wf oe⟩,
     ⟨Rect.unit ![0, 90] ![37, 4] inb_S111x102_S37x4_0_90, k0_pay8 wf oe⟩,
     ⟨Rect.unit ![74, 60] ![37, 30] inb_S111x102_S37x30_74_60, k0_pay7 wf ce⟩,
     ⟨Rect.unit ![37, 30] ![37, 30] inb_S111x102_S37x30_37_30, k0_pay6 wf ce⟩,
     ⟨Rect.unit ![0, 0] ![37, 30] inb_S111x102_S37x30_0_0, k0_pay5 wf ce⟩,
     ⟨Rect.unit ![0, 0] ![111, 102] inb_S111x102_S111x102_0_0, k0_pay4⟩]

/-- The filter layer's value column on a diagonal, with its bias in the last column. -/
def scr1 (wf : Vec F S37x37 .f32) (bf : Vec F S37 .f32) : Vec F S111x4 .f32 :=
  View.canon (Val := Elt F) (s := S111x4) (e := .f32)
    [⟨Rect.unit ![74, 3] ![37, 1] inb_S111x4_S37x1_74_3, k0_pay19 bf⟩,
     ⟨Rect.unit ![37, 3] ![37, 1] inb_S111x4_S37x1_37_3, k0_pay18 bf⟩,
     ⟨Rect.unit ![0, 3] ![37, 1] inb_S111x4_S37x1_0_3, k0_pay17 bf⟩,
     ⟨Rect.unit ![74, 2] ![37, 1] inb_S111x4_S37x1_74_2, k0_pay16 wf⟩,
     ⟨Rect.unit ![37, 1] ![37, 1] inb_S111x4_S37x1_37_1, k0_pay15 wf⟩,
     ⟨Rect.unit ![0, 0] ![37, 1] inb_S111x4_S37x1_0_0, k0_pay14 wf⟩,
     ⟨Rect.unit ![0, 0] ![111, 4] inb_S111x4_S111x4_0_0, k0_pay13⟩]

/-- The second filter layer three times on a diagonal, with its bias in the last column. -/
def scr2 (wf2 : Vec F S37x37 .f32) (bf2 : Vec F S37 .f32) : Vec F S111x112 .f32 :=
  View.canon (Val := Elt F) (s := S111x112) (e := .f32)
    [⟨Rect.unit ![74, 111] ![37, 1] inb_S111x112_S37x1_74_111, k0_pay27 (k0_pay20 bf2)⟩,
     ⟨Rect.unit ![37, 111] ![37, 1] inb_S111x112_S37x1_37_111, k0_pay26 bf2⟩,
     ⟨Rect.unit ![0, 111] ![37, 1] inb_S111x112_S37x1_0_111, k0_pay25 bf2⟩,
     ⟨Rect.unit ![74, 74] ![37, 37] inb_S111x112_S37x37_74_74, k0_pay24 wf2⟩,
     ⟨Rect.unit ![37, 37] ![37, 37] inb_S111x112_S37x37_37_37, k0_pay23 wf2⟩,
     ⟨Rect.unit ![0, 0] ![37, 37] inb_S111x112_S37x37_0_0, k0_pay22 wf2⟩,
     ⟨Rect.unit ![0, 0] ![111, 112] inb_S111x112_S111x112_0_0, k0_pay21⟩]

/-- The histogram layer spread over the feature rows, three times, its bias in the last column; below it the
sample layer's weights. -/
def scr3 (ws : Vec F S32x1000 .f32) (wh : Vec F S32x50 .f32) (bh : Vec F S32 .f32) : Vec F S128x1166 .f32 :=
  View.canon (Val := Elt F) (s := S128x1166) (e := .f32)
    [⟨Rect.unit ![96, 165] ![32, 1000] inb_S128x1166_S32x1000_96_165, k0_pay37 ws⟩,
     ⟨Rect.unit ![64, 1165] ![32, 1] inb_S128x1166_S32x1_64_1165, k0_pay36 (k0_pay29 bh)⟩,
     ⟨Rect.unit ![64, 14] ![32, 150] inb_S128x1166_S32x150_64_14,
       k0_pay35 (iota Kind.tc S150x50 32 [0] iota_S150x50_d0_w32) (iota Kind.tc S150x50 32 [1] iota_S150x50_d1_w32) wh⟩,
     ⟨Rect.unit ![32, 1165] ![32, 1] inb_S128x1166_S32x1_32_1165, k0_pay34 (k0_pay29 bh)⟩,
     ⟨Rect.unit ![32, 14] ![32, 150] inb_S128x1166_S32x150_32_14, k0_pay33 wh k0_pay32⟩,
     ⟨Rect.unit ![0, 1165] ![32, 1] inb_S128x1166_S32x1_0_1165, k0_pay31 bh⟩,
     ⟨Rect.unit ![0, 14] ![32, 150] inb_S128x1166_S32x150_0_14, k0_pay30 wh⟩,
     ⟨Rect.unit ![0, 0] ![128, 1166] inb_S128x1166_S128x1166_0_0, k0_pay28⟩]

/-- The last layer's weights against every row of the type, join and table embeddings. -/
def scr4 (te : Vec F S20x32 .f32) (tab : Vec F S10x32 .f32) (je : Vec F S40x32 .f32) (wp : Vec F S165x165 .f32) :
    Vec F S165x70 .f32 :=
  View.canon (Val := Elt F) (s := S165x70) (e := .f32)
    [⟨Rect.unit ![0, 60] ![165, 10] inb_S165x70_S165x10_0_60, k0_pay41 wp tab⟩,
     ⟨Rect.unit ![0, 20] ![165, 40] inb_S165x70_S165x40_0_20, k0_pay40 (k0_pay39 wp) je⟩,
     ⟨Rect.unit ![0, 0] ![165, 20] inb_S165x70_S165x20_0_0, k0_pay38 wp te⟩]

/-- The last layer's weights of the filter embedding. -/
def scr5 (wp : Vec F S165x165 .f32) : Vec F S165x37 .f32 := k0_pay42 wp

/-- The last layer's weights of the table embedding. -/
def scr6 (wp : Vec F S165x165 .f32) : Vec F S165x32 .f32 := k0_pay44 wp

/-- The last layer's weights of the histogram embedding, and the one bias that is left in the last column. -/
def scr7 (bs : Vec F S32 .f32) (wp : Vec F S165x165 .f32) (bp : Vec F S165 .f32) : Vec F S165x33 .f32 :=
  View.canon (Val := Elt F) (s := S165x33) (e := .f32)
    [⟨Rect.unit ![0, 32] ![165, 1] inb_S165x33_S165x1_0_32, k0_pay49 k0_pay46 (k0_pay47 wp bp bs) k0_pay48⟩,
     ⟨Rect.unit ![0, 0] ![165, 32] inb_S165x33_S165x32_0_0, k0_pay45 wp⟩]

/-- The second filter layer's output for a block of feature columns. -/
def filt2 (x : Vec F S1165x2048 .f32) (s0 : Vec F S111x102 .f32) (s1 : Vec F S111x4 .f32) (s2 : Vec F S111x112 .f32) :
    FVec F S111x2048 .f32 :=
  k0_pay60 (k0_pay53 x) (k0_pay54 x) k0_pay57 (iota .tc S102x2048 32 [0] iota_S102x2048_d0_w32) (k0_pay58 x)
    (k0_pay59 x) 94#32 s0 s1 s2

/-- The filter embedding of a block: the masked average of the three filters. -/
def filtE (x : Vec F S1165x2048 .f32) (s0 : Vec F S111x102 .f32) (s1 : Vec F S111x4 .f32) (s2 : Vec F S111x112 .f32) :
    FVec F S37x2048 .f32 :=
  k0_pay65 (k0_pay55 x) (filt2 x s0 s1 s2) (k0_pay61 (k0_pay55 x)) k0_pay62 (k0_pay63 (k0_pay55 x))
    (k0_pay64 (k0_pay53 x) (k0_pay54 x) k0_pay57 (iota .tc S102x2048 32 [0] iota_S102x2048_d0_w32) (k0_pay58 x)
      (k0_pay59 x) 94#32 s0 s1 s2)

/-- The histogram embedding of a block: the masked average of the three histograms' layers. -/
def histE (x : Vec F S1165x2048 .f32) (s3 : Vec F S128x1166 .f32) : FVec F S32x2048 .f32 :=
  k0_pay67 (k0_pay50 x) (k0_pay55 x) k0_pay57 (k0_pay61 (k0_pay55 x)) s3

/-- The sample layer of a block, without its bias. -/
def sampE (x : Vec F S1165x2048 .f32) (s3 : Vec F S128x1166 .f32) : FVec F S32x2048 .f32 :=
  k0_pay68 (k0_pay50 x) k0_pay57 s3

/-- The block of the result that a block of feature columns gives. -/
def blockOut (x : Vec F S1165x2048 .f32) (s0 : Vec F S111x102 .f32) (s1 : Vec F S111x4 .f32)
    (s2 : Vec F S111x112 .f32) (s3 : Vec F S128x1166 .f32) (s4 : Vec F S165x70 .f32) (s5 : Vec F S165x37 .f32)
    (s6 : Vec F S165x32 .f32) (s7 : Vec F S165x33 .f32) : FVec F S165x2048 .f32 :=
  k0_pay1 (k0_pay51 x) (k0_pay52 x) (k0_pay56 x) k0_pay57 (filtE x s0 s1 s2) (histE x s3) (sampE x s3) s4 s5 s6 s7

end Cert.KernelIdeal.Gen

end
-- ==== Proof.Cases.lean ====
module

public import Idealize.ShloMosaic.Lib.Pipeline.ValueKit.Acc
public import proofs.«01_k».proof.Proof.Scratch

@[expose] public section

set_option maxRecDepth 16384

noncomputable section

open Idealize.ShloMosaic Idealize.SL.Sem

namespace Cert.KernelIdeal.Gen

variable {F : FTy → Type} [FloatOps F]

/-! # What one grid point leaves

The first point leaves the eight scratch matrices of `Scratch` and the block they give; every other point
leaves the block given by the scratch it found. -/

/-- A load of the whole of a matrix reads what the stores before it left, one over another. -/
theorem readCov_whole {Val : EltTy → Type} [∀ e, Nonempty (Val e)] {sig : RefSig} {κ : Kind} {sp : Space} {S : Shape}
    {e : EltTy} (v : View sig κ sp S e) (L : List (View.Piece Val S e)) {off : Fin S.rank → Nat}
    (inb : ∀ a, off a + S.size a ≤ S.size a) (h : ∀ a, off a = 0) :
    v.readCov L (Rect.unit off (no_index S.size) inb).toLoadRect = View.canon L :=
  (View.readCov_eq_canon' v L _).trans (View.ld_unit_lit inb (View.canon L) h)

variable (c : Dev nD) (i : grid0.Coords) (arg1 : Memref sig .tc .vmem S1165x2048 .f32) (harg1 : arg1.IsWhole)
  (arg2 : Memref sig .tc .vmem S20x32 .f32) (harg2 : arg2.IsWhole) (arg3 : Memref sig .tc .vmem S10x32 .f32)
  (harg3 : arg3.IsWhole) (arg4 : Memref sig .tc .vmem S30x32 .f32) (harg4 : arg4.IsWhole)
  (arg5 : Memref sig .tc .vmem S4x4 .f32) (harg5 : arg5.IsWhole) (arg6 : Memref sig .tc .vmem S40x32 .f32)
  (harg6 : arg6.IsWhole) (arg7 : Memref sig .tc .vmem S37x37 .f32) (harg7 : arg7.IsWhole)
  (arg8 : Memref sig .tc .vmem S37 .f32) (harg8 : arg8.IsWhole) (arg9 : Memref sig .tc .vmem S37x37 .f32)
  (harg9 : arg9.IsWhole) (arg10 : Memref sig .tc .vmem S37 .f32) (harg10 : arg10.IsWhole)
  (arg11 : Memref sig .tc .vmem S32x1000 .f32) (harg11 : arg11.IsWhole) (arg12 : Memref sig .tc .vmem S32 .f32)
  (harg12 : arg12.IsWhole) (arg13 : Memref sig .tc .vmem S32x50 .f32) (harg13 : arg13.IsWhole)
  (arg14 : Memref sig .tc .vmem S32 .f32) (harg14 : arg14.IsWhole) (arg15 : Memref sig .tc .vmem S165x165 .f32)
  (harg15 : arg15.IsWhole) (arg16 : Memref sig .tc .vmem S165 .f32) (harg16 : arg16.IsWhole)
  (arg17 : Memref sig .tc .vmem S165x2048 .f32) (harg17 : arg17.IsWhole) (arg18 : Memref sig .tc .vmem S111x102 .f32)
  (harg18 : arg18.IsWhole) (arg19 : Memref sig .tc .vmem S111x4 .f32) (harg19 : arg19.IsWhole)
  (arg20 : Memref sig .tc .vmem S111x112 .f32) (harg20 : arg20.IsWhole) (arg21 : Memref sig .tc .vmem S128x1166 .f32)
  (harg21 : arg21.IsWhole) (arg22 : Memref sig .tc .vmem S165x70 .f32) (harg22 : arg22.IsWhole)
  (arg23 : Memref sig .tc .vmem S165x37 .f32) (harg23 : arg23.IsWhole) (arg24 : Memref sig .tc .vmem S165x32 .f32)
  (harg24 : arg24.IsWhole) (arg25 : Memref sig .tc .vmem S165x33 .f32) (harg25 : arg25.IsWhole)
  (x0 : Vec F S1165x2048 .f32) (x1 : Vec F S20x32 .f32) (x2 : Vec F S10x32 .f32) (x3 : Vec F S30x32 .f32)
  (x4 : Vec F S4x4 .f32) (x5 : Vec F S40x32 .f32) (x6 : Vec F S37x37 .f32) (x7 : Vec F S37 .f32)
  (x8 : Vec F S37x37 .f32) (x9 : Vec F S37 .f32) (x10 : Vec F S32x1000 .f32) (x11 : Vec F S32 .f32)
  (x12 : Vec F S32x50 .f32) (x13 : Vec F S32 .f32) (x14 : Vec F S165x165 .f32) (x15 : Vec F S165 .f32)

/-- The first point leaves the eight scratch matrices: the filter weights, the value column and bias, the second filter
layer, the histogram and sample layers, the embedding products, and the three parts of the last layer. -/
theorem first_scr (hc0 : cond0_0 i) :
    sout0_A_0 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = scr0 x6 x3 x4
    ∧ sout0_A_1 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = scr1 x6 x7
    ∧ sout0_A_2 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = scr2 x8 x9
    ∧ sout0_A_3 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = scr3 x10 x12 x13
    ∧ sout0_A_4 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = scr4 x1 x2 x5 x14
    ∧ sout0_A_5 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = scr5 x14
    ∧ sout0_A_6 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = scr6 x14
    ∧ sout0_A_7 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = scr7 x11 x14 x15 := by
  refine ⟨?_, ?_, ?_, ?_, ?_, ?_, ?_, ?_⟩
  on_goal 1 => unfold sout0_A_0
  on_goal 2 => unfold sout0_A_1
  on_goal 3 => unfold sout0_A_2
  on_goal 4 => unfold sout0_A_3
  on_goal 5 => unfold sout0_A_4
  on_goal 6 => unfold sout0_A_5
  on_goal 7 => unfold sout0_A_6
  on_goal 8 => unfold sout0_A_7
  all_goals
    rw [View.read_writes_junk_eq_canon]
    unfold kernelRun0_A
    dsimp only
    sl_unfold_words
    simp (disch := decide) only [View.readAt_eq_ld, harg1.read_unread, harg2.read_unread, harg3.read_unread,
      harg4.read_unread, harg5.read_unread, harg6.read_unread, harg7.read_unread, harg8.read_unread,
      harg9.read_unread, harg10.read_unread, harg11.read_unread, harg12.read_unread, harg13.read_unread,
      harg14.read_unread, harg15.read_unread, harg16.read_unread, View.ld_unit_lit', View.canon_cons_unit_lit',
      shapeCast_self]
    rfl

/-- A later point leaves the block its feature columns give with the scratch it found. -/
theorem later_out (hc0 : ¬cond0_0 i)
    (xs0 : Vec F S111x102 .f32) (xs1 : Vec F S111x4 .f32) (xs2 : Vec F S111x112 .f32) (xs3 : Vec F S128x1166 .f32)
    (xs4 : Vec F S165x70 .f32) (xs5 : Vec F S165x37 .f32) (xs6 : Vec F S165x32 .f32) (xs7 : Vec F S165x33 .f32) :
    out0_B_16 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 xs0 xs1 xs2 xs3 xs4 xs5 xs6 xs7 = blockOut x0 xs0 xs1 xs2 xs3 xs4
      xs5 xs6 xs7 := by
  unfold out0_B_16
  rw [View.read_writes_junk_eq_canon]
  unfold kernelRun0_B
  dsimp only
  sl_unfold_words
  simp (disch := decide) only [View.readAt_eq_ld, harg1.read_unread, harg2.read_unread, harg3.read_unread,
    harg4.read_unread, harg5.read_unread, harg6.read_unread, harg7.read_unread, harg8.read_unread, harg9.read_unread,
    harg10.read_unread, harg11.read_unread, harg12.read_unread, harg13.read_unread, harg14.read_unread,
    harg15.read_unread, harg16.read_unread, harg18.read_unread, harg19.read_unread, harg20.read_unread,
    harg21.read_unread, harg22.read_unread, harg23.read_unread, harg24.read_unread, harg25.read_unread,
    View.ld_unit_lit', View.canon_cons_unit_lit', shapeCast_self]
  rfl

/-- The first point leaves the block its feature columns give with the scratch it built. -/
theorem first_out (hc0 : cond0_0 i) :
    out0_A_16 c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 hc0 x0 x1 x2
      x3 x4 x5 x6 x7 x8 x9 x10 x11 x12 x13 x14 x15 = blockOut x0 (scr0 x6 x3 x4) (scr1 x6 x7) (scr2 x8 x9) (scr3 x10
      x12 x13) (scr4 x1 x2 x5 x14) (scr5 x14) (scr6 x14) (scr7 x11 x14 x15) := by
  unfold out0_A_16
  rw [View.read_writes_junk_eq_canon]
  unfold kernelRun0_A
  dsimp only
  sl_unfold_words
  simp (disch := decide) only [View.readAt_eq_ld, harg1.read_unread, harg2.read_unread, harg3.read_unread,
    harg4.read_unread, harg5.read_unread, harg6.read_unread, harg7.read_unread, harg8.read_unread, harg9.read_unread,
    harg10.read_unread, harg11.read_unread, harg12.read_unread, harg13.read_unread, harg14.read_unread,
    harg15.read_unread, harg16.read_unread, View.ld_unit_lit', View.canon_cons_unit_lit', readCov_whole,
    shapeCast_self]
  rfl

end Cert.KernelIdeal.Gen

end
-- ==== Proof.Points.lean ====
module

public import Idealize.ShloMosaic.Lib.Pointwise
public import proofs.«01_k».proof.Proof.Cases

@[expose] public section

set_option maxRecDepth 16384

noncomputable section

open Idealize.ShloMosaic Idealize.SL.Sem

namespace Cert.KernelIdeal.Gen

open Idealize.ShloMosaic.TcCoe

variable {F : FTy → Type} [FloatOps F]
variable (m : (ℓ : Loc nD τ sig) → Buf (Elt F) ℓ) (ρ : Dev nD → PrngReg)

/-! # What every grid point reads and leaves

A weight's window is the whole weight at every point; the feature window is a run of 2048 columns. The scratch
matrices are built at the first point and never change. -/

/-- A block of an array's own size at block index zero is the whole array. -/
theorem whole_block {s : Shape} {ix : Fin s.rank → ℕ} (hix : ∀ a, (ix a + 1) * s.size a ≤ s.size a) (h : ∀ a, ix a = 0)
    {β : Type} (f : s.Idx → β) (j : s.Idx) : f ((Rect.block s.size ix hix).emb j) = f j := by
  congr 1
  funext a
  apply Fin.ext
  show ix a * s.size a + 1 * (j a).val = (j a).val
  rw [h a]
  omega

/-- Weight 1, as the launch finds it. -/
abbrev w1 (c : Dev nD) : Vec F S20x32 .f32 := m ((c : Thread nD τ).loc main_arg1)

/-- The window of weight 1 is that weight at every point. -/
theorem window_1 (c : Dev nD) (t : Fin cfg0.N) : (iblk m c 1 t : Vec F S20x32 .f32) = w1 m c :=
  funext fun j => (whole_block (s := S20x32) (hinb0_1 (grid0.coords t)) (Fin.forall_fin_two.2 ⟨rfl, rfl⟩) (V m c main_arg1) j).trans
    (congrFun (V_main_arg1 m c) j)

/-- Weight 2, as the launch finds it. -/
abbrev w2 (c : Dev nD) : Vec F S10x32 .f32 := m ((c : Thread nD τ).loc main_arg2)

/-- The window of weight 2 is that weight at every point. -/
theorem window_2 (c : Dev nD) (t : Fin cfg0.N) : (iblk m c 2 t : Vec F S10x32 .f32) = w2 m c :=
  funext fun j => (whole_block (s := S10x32) (hinb0_2 (grid0.coords t)) (Fin.forall_fin_two.2 ⟨rfl, rfl⟩) (V m c main_arg2) j).trans
    (congrFun (V_main_arg2 m c) j)

/-- Weight 3, as the launch finds it. -/
abbrev w3 (c : Dev nD) : Vec F S30x32 .f32 := m ((c : Thread nD τ).loc main_arg3)

/-- The window of weight 3 is that weight at every point. -/
theorem window_3 (c : Dev nD) (t : Fin cfg0.N) : (iblk m c 3 t : Vec F S30x32 .f32) = w3 m c :=
  funext fun j => (whole_block (s := S30x32) (hinb0_3 (grid0.coords t)) (Fin.forall_fin_two.2 ⟨rfl, rfl⟩) (V m c main_arg3) j).trans
    (congrFun (V_main_arg3 m c) j)

/-- Weight 4, as the launch finds it. -/
abbrev w4 (c : Dev nD) : Vec F S4x4 .f32 := m ((c : Thread nD τ).loc main_arg4)

/-- The window of weight 4 is that weight at every point. -/
theorem window_4 (c : Dev nD) (t : Fin cfg0.N) : (iblk m c 4 t : Vec F S4x4 .f32) = w4 m c :=
  funext fun j => (whole_block (s := S4x4) (hinb0_4 (grid0.coords t)) (Fin.forall_fin_two.2 ⟨rfl, rfl⟩) (V m c main_arg4) j).trans
    (congrFun (V_main_arg4 m c) j)

/-- Weight 5, as the launch finds it. -/
abbrev w5 (c : Dev nD) : Vec F S40x32 .f32 := m ((c : Thread nD τ).loc main_arg5)

/-- The window of weight 5 is that weight at every point. -/
theorem window_5 (c : Dev nD) (t : Fin cfg0.N) : (iblk m c 5 t : Vec F S40x32 .f32) = w5 m c :=
  funext fun j => (whole_block (s := S40x32) (hinb0_5 (grid0.coords t)) (Fin.forall_fin_two.2 ⟨rfl, rfl⟩) (V m c main_arg5) j).trans
    (congrFun (V_main_arg5 m c) j)

/-- Weight 6, as the launch finds it. -/
abbrev w6 (c : Dev nD) : Vec F S37x37 .f32 := m ((c : Thread nD τ).loc main_arg6)

/-- The window of weight 6 is that weight at every point. -/
theorem window_6 (c : Dev nD) (t : Fin cfg0.N) : (iblk m c 6 t : Vec F S37x37 .f32) = w6 m c :=
  funext fun j => (whole_block (s := S37x37) (hinb0_6 (grid0.coords t)) (Fin.forall_fin_two.2 ⟨rfl, rfl⟩) (V m c main_arg6) j).trans
    (congrFun (V_main_arg6 m c) j)

/-- Weight 7, as the launch finds it. -/
abbrev w7 (c : Dev nD) : Vec F S37 .f32 := m ((c : Thread nD τ).loc main_arg7)

/-- The window of weight 7 is that weight at every point. -/
theorem window_7 (c : Dev nD) (t : Fin cfg0.N) : (iblk m c 7 t : Vec F S37 .f32) = w7 m c :=
  funext fun j => (whole_block (s := S37) (hinb0_7 (grid0.coords t)) (Fin.forall_fin_one.2 rfl) (V m c main_arg7) j).trans
    (congrFun (V_main_arg7 m c) j)

/-- Weight 8, as the launch finds it. -/
abbrev w8 (c : Dev nD) : Vec F S37x37 .f32 := m ((c : Thread nD τ).loc main_arg8)

/-- The window of weight 8 is that weight at every point. -/
theorem window_8 (c : Dev nD) (t : Fin cfg0.N) : (iblk m c 8 t : Vec F S37x37 .f32) = w8 m c :=
  funext fun j => (whole_block (s := S37x37) (hinb0_8 (grid0.coords t)) (Fin.forall_fin_two.2 ⟨rfl, rfl⟩) (V m c main_arg8) j).trans
    (congrFun (V_main_arg8 m c) j)

/-- Weight 9, as the launch finds it. -/
abbrev w9 (c : Dev nD) : Vec F S37 .f32 := m ((c : Thread nD τ).loc main_arg9)

/-- The window of weight 9 is that weight at every point. -/
theorem window_9 (c : Dev nD) (t : Fin cfg0.N) : (iblk m c 9 t : Vec F S37 .f32) = w9 m c :=
  funext fun j => (whole_block (s := S37) (hinb0_9 (grid0.coords t)) (Fin.forall_fin_one.2 rfl) (V m c main_arg9) j).trans
    (congrFun (V_main_arg9 m c) j)

/-- Weight 10, as the launch finds it. -/
abbrev w10 (c : Dev nD) : Vec F S32x1000 .f32 := m ((c : Thread nD τ).loc main_arg10)

/-- The window of weight 10 is that weight at every point. -/
theorem window_10 (c : Dev nD) (t : Fin cfg0.N) : (iblk m c 10 t : Vec F S32x1000 .f32) = w10 m c :=
  funext fun j => (whole_block (s := S32x1000) (hinb0_10 (grid0.coords t)) (Fin.forall_fin_two.2 ⟨rfl, rfl⟩) (V m c main_arg10) j).trans
    (congrFun (V_main_arg10 m c) j)

/-- Weight 11, as the launch finds it. -/
abbrev w11 (c : Dev nD) : Vec F S32 .f32 := m ((c : Thread nD τ).loc main_arg11)

/-- The window of weight 11 is that weight at every point. -/
theorem window_11 (c : Dev nD) (t : Fin cfg0.N) : (iblk m c 11 t : Vec F S32 .f32) = w11 m c :=
  funext fun j => (whole_block (s := S32) (hinb0_11 (grid0.coords t)) (Fin.forall_fin_one.2 rfl) (V m c main_arg11) j).trans
    (congrFun (V_main_arg11 m c) j)

/-- Weight 12, as the launch finds it. -/
abbrev w12 (c : Dev nD) : Vec F S32x50 .f32 := m ((c : Thread nD τ).loc main_arg12)

/-- The window of weight 12 is that weight at every point. -/
theorem window_12 (c : Dev nD) (t : Fin cfg0.N) : (iblk m c 12 t : Vec F S32x50 .f32) = w12 m c :=
  funext fun j => (whole_block (s := S32x50) (hinb0_12 (grid0.coords t)) (Fin.forall_fin_two.2 ⟨rfl, rfl⟩) (V m c main_arg12) j).trans
    (congrFun (V_main_arg12 m c) j)

/-- Weight 13, as the launch finds it. -/
abbrev w13 (c : Dev nD) : Vec F S32 .f32 := m ((c : Thread nD τ).loc main_arg13)

/-- The window of weight 13 is that weight at every point. -/
theorem window_13 (c : Dev nD) (t : Fin cfg0.N) : (iblk m c 13 t : Vec F S32 .f32) = w13 m c :=
  funext fun j => (whole_block (s := S32) (hinb0_13 (grid0.coords t)) (Fin.forall_fin_one.2 rfl) (V m c main_arg13) j).trans
    (congrFun (V_main_arg13 m c) j)

/-- Weight 14, as the launch finds it. -/
abbrev w14 (c : Dev nD) : Vec F S165x165 .f32 := m ((c : Thread nD τ).loc main_arg14)

/-- The window of weight 14 is that weight at every point. -/
theorem window_14 (c : Dev nD) (t : Fin cfg0.N) : (iblk m c 14 t : Vec F S165x165 .f32) = w14 m c :=
  funext fun j => (whole_block (s := S165x165) (hinb0_14 (grid0.coords t)) (Fin.forall_fin_two.2 ⟨rfl, rfl⟩) (V m c main_arg14) j).trans
    (congrFun (V_main_arg14 m c) j)

/-- Weight 15, as the launch finds it. -/
abbrev w15 (c : Dev nD) : Vec F S165 .f32 := m ((c : Thread nD τ).loc main_arg15)

/-- The window of weight 15 is that weight at every point. -/
theorem window_15 (c : Dev nD) (t : Fin cfg0.N) : (iblk m c 15 t : Vec F S165 .f32) = w15 m c :=
  funext fun j => (whole_block (s := S165) (hinb0_15 (grid0.coords t)) (Fin.forall_fin_one.2 rfl) (V m c main_arg15) j).trans
    (congrFun (V_main_arg15 m c) j)

/-- The feature block of point `t`: its 2048 rows of the features, as columns. -/
theorem window_0 (c : Dev nD) (t : Fin cfg0.N) (k : Fin 1165) (b : Fin 2048) (h : 2048 * t.val + b.val < 16384) :
    (iblk m c 0 t : Vec F S1165x2048 .f32) (ix2 k b)
      = (m ((c : Thread nD τ).loc main_arg0) : Vec F S16384x1165 .f32) (ix2 ⟨2048 * t.val + b.val, h⟩ k) := by
  have hi : ∀ t : Fin cfg0.N, win0_0.index t 0 = 0 ∧ win0_0.index t 1 = t.val :=
    (by decide +kernel : ∀ t : Fin grid0.N, _)
  have hV : V m c main_call0_v0 = (transpose S1165x16384 [1, 0] (m ((c : Thread nD τ).loc main_arg0) : Vec F S16384x1165 .f32)
      transposes_S16384x1165_S1165x16384_1_0 : Vec F S1165x16384 .f32) := by
    show StableHlo.after [_] _ _ = _
    rw [StableHlo.after_cons, StableHlo.after_nil]
    exact StableHlo.unary_result ..
  unfold iblk
  rw [View.read_apply]
  show V m c main_call0_v0 _ = _
  rw [hV]
  have he : (((cfg0.win 0).blk t).view.emb (ix2 k b) : S1165x16384.Idx) = ix2 k ⟨2048 * t.val + b.val, h⟩ := by
    funext a
    apply Fin.ext
    match a with
    | ⟨0, _⟩ => show win0_0.index t 0 * 1165 + 1 * k.val = k.val; rw [(hi t).1]; omega
    | ⟨1, _⟩ => show win0_0.index t 1 * 2048 + 1 * b.val = 2048 * t.val + b.val; rw [(hi t).2]; omega
  refine (congrArg _ he).trans ?_
  pointwise []

/-- The scratch matrices after any point are those the first point built from the weights. -/
theorem carried (c : Dev nD) : ∀ (n : ℕ) (hn : n < cfg0.N), (outsAt0 m c n hn).2
    = (scr0 (w6 m c) (w3 m c) (w4 m c), scr1 (w6 m c) (w7 m c), scr2 (w8 m c) (w9 m c), scr3 (w10 m c) (w12 m c) (w13 m c),
       scr4 (w1 m c) (w2 m c) (w5 m c) (w14 m c), scr5 (w14 m c), scr6 (w14 m c), scr7 (w11 m c) (w14 m c) (w15 m c))
  | 0, hn => by
    rw [outsAt0_A m c ⟨0, hn⟩ rfl]
    simp only [first_scr, window_1, window_2, window_3, window_4, window_5, window_6, window_7, window_8, window_9, window_10,
      window_11, window_12, window_13, window_14, window_15]
  | n + 1, hn => by
    have hN : cfg0.N = 8 := N_0
    have hB : ¬(⟨n + 1, hn⟩ : Fin cfg0.N).val % 8 = 0 := by dsimp only; omega
    rw [← carried c n (Nat.lt_of_succ_lt hn), outsAt0_B m c ⟨n + 1, hn⟩ hB]
    rfl

/-- What a point leaves in the result's window: the block its feature columns give with those matrices. -/
theorem left (c : Dev nD) : ∀ (n : ℕ) (hn : n < cfg0.N), (outsAt0 m c n hn).1
    = blockOut (iblk m c 0 ⟨n, hn⟩) (scr0 (w6 m c) (w3 m c) (w4 m c)) (scr1 (w6 m c) (w7 m c)) (scr2 (w8 m c) (w9 m c))
        (scr3 (w10 m c) (w12 m c) (w13 m c)) (scr4 (w1 m c) (w2 m c) (w5 m c) (w14 m c)) (scr5 (w14 m c)) (scr6 (w14 m c))
        (scr7 (w11 m c) (w14 m c) (w15 m c))
  | 0, hn => by
    rw [outsAt0_A m c ⟨0, hn⟩ rfl]
    simp only [first_out, window_1, window_2, window_3, window_4, window_5, window_6, window_7, window_8, window_9, window_10,
      window_11, window_12, window_13, window_14, window_15]
  | n + 1, hn => by
    have hN : cfg0.N = 8 := N_0
    have hB : ¬(⟨n + 1, hn⟩ : Fin cfg0.N).val % 8 = 0 := by dsimp only; omega
    rw [outsAt0_B m c ⟨n + 1, hn⟩ hB]
    have h := carried m c n (Nat.lt_of_succ_lt hn)
    simp only [later_out]
    show blockOut _ (outsAt0 m c n _).2.1 (outsAt0 m c n _).2.2.1 (outsAt0 m c n _).2.2.2.1 (outsAt0 m c n _).2.2.2.2.1
      (outsAt0 m c n _).2.2.2.2.2.1 (outsAt0 m c n _).2.2.2.2.2.2.1 (outsAt0 m c n _).2.2.2.2.2.2.2.1
      (outsAt0 m c n _).2.2.2.2.2.2.2.2 = _
    rw [h]

end Cert.KernelIdeal.Gen

end
-- ==== Proof.KernelRun.lean ====
module

public import Idealize.ShloMosaic.Lib.Pointwise
public import proofs.«01_k».proof.Proof.Points

@[expose] public section

set_option maxRecDepth 16384

noncomputable section

open Idealize.ShloMosaic Idealize.SL.Sem

namespace Cert.KernelIdeal.Gen

open Idealize.ShloMosaic.TcCoe

variable {F : FTy → Type} [FloatOps F]
variable (m : (ℓ : Loc nD τ sig) → Buf (Elt F) ℓ) (ρ : Dev nD → PrngReg)

/-! # The kernel's run

The eight blocks fill the result array side by side; the host then turns the array over. -/

/-- The kernel's result array: the blocks' values, turned over. -/
def resultOf (c : Dev nD) : Vec F S16384x165 .f32 :=
  transpose S16384x165 [1, 0] ((dats m 0 c).arrAt 16 cfg0.N : Vec F S165x16384 .f32) transposes_S165x16384_S16384x165_1_0

/-- Row `2048 t + b` of the result is column `b` of the block point `t` leaves. -/
theorem resultOf_apply (c : Dev nD) (t : Fin cfg0.N) (o : Fin 165) (b : Fin 2048) (h : 2048 * t.val + b.val < 16384) :
    resultOf m c (ix2 ⟨2048 * t.val + b.val, h⟩ o)
      = blockOut (iblk m c 0 t) (scr0 (w6 m c) (w3 m c) (w4 m c)) (scr1 (w6 m c) (w7 m c)) (scr2 (w8 m c) (w9 m c))
        (scr3 (w10 m c) (w12 m c) (w13 m c)) (scr4 (w1 m c) (w2 m c) (w5 m c) (w14 m c)) (scr5 (w14 m c)) (scr6 (w14 m c))
        (scr7 (w11 m c) (w14 m c) (w15 m c)) (ix2 o b) := by
  have hi : ∀ t : Fin cfg0.N, win0_16.index t 0 = 0 ∧ win0_16.index t 1 = t.val :=
    (by decide +kernel : ∀ t : Fin grid0.N, _)
  have hinj : ∀ t t' : Fin cfg0.N, win0_16.index t = win0_16.index t' → t = t' := fun t t' e =>
    Fin.ext (by rw [← (hi t).2, ← (hi t').2, e])
  have hfl : ∀ t : Fin cfg0.N, (cfg0.win 16).flush t = true := (by decide +kernel : ∀ t : Fin grid0.N, _)
  have hb := (dats m 0 c).read_blk_arrAt_eq_flushed 16
    (fun t t' _ _ hne => (cfg0.win 16).disjoint_blk fun h => hne (hinj t t' h)) cfg0.N t t.isLt (hfl t)
  have he : (((cfg0.win 16).blk t).view.emb (ix2 o b) : S165x16384.Idx) = ix2 o ⟨2048 * t.val + b.val, h⟩ := by
    funext a
    apply Fin.ext
    match a with
    | ⟨0, _⟩ => show win0_16.index t 0 * 165 + 1 * o.val = o.val; rw [(hi t).1]; omega
    | ⟨1, _⟩ => show win0_16.index t 1 * 2048 + 1 * b.val = 2048 * t.val + b.val; rw [(hi t).2]; omega
  have hr : resultOf m c (ix2 ⟨2048 * t.val + b.val, h⟩ o)
      = ((dats m 0 c).arrAt 16 cfg0.N : Vec F S165x16384 .f32) (ix2 o ⟨2048 * t.val + b.val, h⟩) := by
    unfold resultOf
    generalize ((dats m 0 c).arrAt 16 cfg0.N : Vec F S165x16384 .f32) = y
    pointwise []
  have hL : (dats m 0 c).flushed 16 t = (cfg0.win 16).cut (grid0.coords t) ((outsAt0 m c t.val t.isLt).1) := by
    show (cfg0.win 16).cut (grid0.coords t) ((dats m 0 c).after 16 t) = _
    rw [after0_16]
  rw [hr, ← he, ← left m c t.val t.isLt]
  exact (congrFun hb (ix2 o b)).trans (congrFun hL (ix2 o b))

/-- The host's last step: the region's array, turned over, is the result. -/
theorem tail_result (c : Dev nD) :
    Pipeline.afterTail₀ cfgs (dats m) 0 (V0 m) [hostOps1] c main_v0 = resultOf m c := by
  unfold Pipeline.afterTail₀
  show StableHlo.after [_] _ _ = _
  rw [StableHlo.after_cons, StableHlo.after_nil]
  refine (StableHlo.unary_result ..).trans ?_
  unfold resultOf
  exact congrArg (fun y : Vec F S165x16384 .f32 => transpose S16384x165 [1, 0] y transposes_S165x16384_S16384x165_1_0)
    (Pipeline.withArrays_arr (cfgs 0).spec (by exact (by decide : Function.Injective (Pipeline.arrRef spec0))) c (V0 m c)
      (fun w => (dats m 0 c).arrAt w cfg0.N) 16)

/-- Every run ends with the result in its place and the arguments as they were. -/
theorem run : θ_run defs (onTc (τ := τ) (main (F := F))) ⟨m, fun _ => 0, ρ⟩ fun r => ∀ c : Dev nD,
    r.2.mem ((c.tc : Thread nD τ).loc main_v0) = resultOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15) :=
  (θ_run defs _ _).mono (fun _ h c => ⟨((h.1 c).2 main_v0 (Pipeline.mem_restRefs_of main_v0 (by decide) (by decide))).trans (tail_result m c), h.2 c⟩)
    (θ_run_and (run_main m ρ) (unchanged m ρ))

end Cert.KernelIdeal.Gen

end
-- ==== Proof.Spec.lean ====
module

public import Idealize.ShloMosaic.Lib.Pointwise

@[expose] public section

set_option maxRecDepth 16384

noncomputable section

open Idealize.ShloMosaic

namespace Cert.Spec

/-! # One row of the result, as plain sums

What the network computes for one row of features, written out over the extended reals. The reference's value
and the kernel's value are each shown to be this. -/

/-- The weights, by coordinates. -/
structure Weights where
  te : Fin 20 → Fin 32 → EReal
  tab : Fin 10 → Fin 32 → EReal
  ce : Fin 30 → Fin 32 → EReal
  oe : Fin 4 → Fin 4 → EReal
  je : Fin 40 → Fin 32 → EReal
  wf : Fin 37 → Fin 37 → EReal
  bf : Fin 37 → EReal
  wf2 : Fin 37 → Fin 37 → EReal
  bf2 : Fin 37 → EReal
  ws : Fin 32 → Fin 1000 → EReal
  bs : Fin 32 → EReal
  wh : Fin 32 → Fin 50 → EReal
  bh : Fin 32 → EReal
  wp : Fin 165 → Fin 165 → EReal
  bp : Fin 165 → EReal

/-- The ids of a row: its type, its join, its three columns and operations, its table. -/
structure Ids where
  t : Fin 20
  j : Fin 40
  c : Fin 3 → Fin 30
  o : Fin 3 → Fin 4
  b : Fin 10

/-- The features of a row hold these ids. -/
structure Ids.Of (n : Ids) (x : Fin 1165 → EReal) : Prop where
  t : FloatOps.fptosi (F := Ideal) (φ := .f32) 32 (x 0) = BitVec.ofNat 32 (n.t).val
  j : FloatOps.fptosi (F := Ideal) (φ := .f32) 32 (x 1) = BitVec.ofNat 32 (n.j).val
  c : ∀ i : Fin 3, FloatOps.fptosi (F := Ideal) (φ := .f32) 32 (x ⟨2 + i.val, by omega⟩) = BitVec.ofNat 32 (n.c i).val
  o : ∀ i : Fin 3, FloatOps.fptosi (F := Ideal) (φ := .f32) 32 (x ⟨5 + i.val, by omega⟩) = BitVec.ofNat 32 (n.o i).val
  b : FloatOps.fptosi (F := Ideal) (φ := .f32) 32 (x 164) = BitVec.ofNat 32 (n.b).val

/-- The unit's slope: a negative number is scaled down. -/
def leaky (y : EReal) : EReal := if 0 ≤ y then y else Ideal.ofBits FTy.f32 0x3C23D70A#32 * y

variable (W : Weights) (x : Fin 1165 → EReal) (n : Ids)

/-- Filter `i` before the first unit: its column's row, its operation's row and its value, through the layer. -/
def pre1 (i : Fin 3) (f : Fin 37) : EReal :=
  ((∑ k : Fin 32, W.ce (n.c i) k * W.wf f ⟨k.val, by omega⟩)
    + ((∑ k : Fin 4, W.oe (n.o i) k * W.wf f ⟨32 + k.val, by omega⟩) + x ⟨8 + i.val, by omega⟩ * W.wf f 36))
  + W.bf f

/-- Filter `i` before the second unit. -/
def pre2 (i : Fin 3) (g : Fin 37) : EReal := (∑ f : Fin 37, leaky (pre1 W x n i f) * W.wf2 g f) + W.bf2 g

/-- A number kept where filter `i` is on, and zero where it is off. -/
def masked (i : Fin 3) (y : EReal) : EReal := if x ⟨11 + i.val, by omega⟩ ≠ 0 then y else 0

/-- The sum of the mask. -/
def count : EReal := ∑ i : Fin 3, x ⟨11 + i.val, by omega⟩

/-- The filter embedding: the masked average of the three filters. -/
def filt (g : Fin 37) : EReal := Ideal.div (∑ i : Fin 3, masked x i (leaky (pre2 W x n i g))) (count x)

/-- The histogram layer of histogram `j`. -/
def hist1 (j : Fin 3) (e : Fin 32) : EReal :=
  (∑ c : Fin 50, x ⟨14 + (c.val * 3 + j.val), by omega⟩ * W.wh e c) + W.bh e

/-- The histogram embedding: the masked average of the three histograms' layers. -/
def hist (e : Fin 32) : EReal := Ideal.div (∑ j : Fin 3, masked x j (hist1 W x j e)) (count x)

/-- The sample layer, without its bias. -/
def samp (e : Fin 32) : EReal := ∑ k : Fin 1000, x ⟨165 + k.val, by omega⟩ * W.ws e k

/-- The last layer before its unit. -/
def pre (o : Fin 165) : EReal :=
  ((∑ k : Fin 32, W.te n.t k * W.wp o ⟨k.val, by omega⟩)
    + ((∑ k : Fin 37, filt W x n k * W.wp o ⟨32 + k.val, by omega⟩)
      + ((∑ k : Fin 32, W.je n.j k * W.wp o ⟨69 + k.val, by omega⟩)
        + ((∑ k : Fin 32, (W.tab n.b k + (samp W x k + W.bs k)) * W.wp o ⟨101 + k.val, by omega⟩)
          + ∑ k : Fin 32, hist W x k * W.wp o ⟨133 + k.val, by omega⟩))))
  + W.bp o

/-- Entry `o` of the row's result. -/
def out (o : Fin 165) : EReal := leaky (pre W x n o)

/-- A sum over a range is the sum over its first part and the sum over the rest. -/
theorem sum_cut {N : ℕ} (a b : ℕ) (h : a + b = N) (f : Fin N → EReal) :
    ∑ i : Fin N, f i = (∑ i : Fin a, f ⟨i.val, by omega⟩) + ∑ i : Fin b, f ⟨a + i.val, by omega⟩ := by
  subst h
  exact Fin.sum_univ_add f

end Cert.Spec

end
-- ==== Proof.Words.lean ====
module

public import Idealize.ShloMosaic.Lib.Pointwise
public import Idealize.ShloMosaic.Lib.WordCmp

@[expose] public section

set_option maxRecDepth 16384

noncomputable section

open Idealize.ShloMosaic Idealize.ShloMosaic.WordCmp

namespace Cert.Words

/-! # Words that compare equal, and sums that pick an entry -/

/-- One where two numbers agree, zero elsewhere. -/
def hot (a b : ℕ) : EReal := if a = b then 1 else 0

/-- A one-hot entry is not negative. -/
theorem hot_nonneg (a b : ℕ) : 0 ≤ hot a b := by
  unfold hot
  split_ifs
  · exact zero_le_one
  · exact le_refl _

/-- The comparison's bit as a number. -/
theorem hot_word (a b : ℕ) (ha : a < 2 ^ 32) (hb : b < 2 ^ 32) :
    (FloatOps.sitofp (F := Ideal) FTy.f32 (BitVec.setWidth 32 (IntOp.cmpi .eq (BitVec.ofNat 32 a) (BitVec.ofNat 32 b))) : EReal)
      = hot a b := by
  rw [cmpi_eq_ofNat ha hb]
  unfold hot
  by_cases h : a = b
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

/-- Adding two words adds the numbers. -/
theorem add_word (a b : ℕ) : IntOp.addi (BitVec.ofNat 32 a) (BitVec.ofNat 32 b) = BitVec.ofNat 32 (a + b) :=
  (BitVec.ofNat_add a b).symm

/-- Multiplying two words multiplies the numbers. -/
theorem mul_word (a b : ℕ) : IntOp.muli (BitVec.ofNat 32 a) (BitVec.ofNat 32 b) = BitVec.ofNat 32 (a * b) :=
  (BitVec.ofNat_mul a b).symm

/-- A sum that keeps the entry whose word is `f`'s is that entry. -/
theorem sum_pick {N : ℕ} (hN : N ≤ 2 ^ 31) (f : Fin N) (g : Fin N → EReal) :
    ∑ x : Fin N, Scalar.select (IntOp.cmpi .eq (BitVec.ofNat 32 f.val) (BitVec.ofNat 32 x.val)) (g x) 0 = g f := by
  rw [Finset.sum_eq_single f]
  · rw [cmpi_eq_ofNat (by omega) (by omega)]
    simp [Scalar.select]
  · intro x _ hx
    rw [cmpi_eq_ofNat (by omega) (by omega), decide_eq_false (fun h => hx (Fin.ext h.symm))]
    simp [Scalar.select]
  · exact fun h => absurd (Finset.mem_univ f) h

/-- A sum against a one is the entry there. -/
theorem sum_hot {N : ℕ} (a : Fin N → EReal) (c : ℕ) (h : c < N) :
    ∑ k : Fin N, a k * hot k.val c = a ⟨c, h⟩ := by
  rw [Finset.sum_eq_single ⟨c, h⟩]
  · simp [hot]
  · intro k _ hk
    rw [hot, if_neg (fun e => hk (Fin.ext e)), mul_zero]
  · exact fun h' => absurd (Finset.mem_univ _) h'

/-- A product against a sum of ones and zeros, term by term. -/
theorem mul_add_hot (a p : EReal) (hp : 0 ≤ p) (k c : ℕ) : a * (p + hot k c) = a * p + a * hot k c :=
  EReal.left_distrib_of_nonneg hp (hot_nonneg _ _)

/-- A sum against three ones is the three entries. -/
theorem sum_hot3 {N : ℕ} (a : Fin N → EReal) (c0 c1 c2 : ℕ) (h0 : c0 < N) (h1 : c1 < N) (h2 : c2 < N) :
    ∑ k : Fin N, a k * (hot k.val c0 + hot k.val c1 + hot k.val c2) = a ⟨c0, h0⟩ + a ⟨c1, h1⟩ + a ⟨c2, h2⟩ := by
  have e : ∀ k : Fin N, a k * (hot k.val c0 + hot k.val c1 + hot k.val c2)
      = a k * hot k.val c0 + a k * hot k.val c1 + a k * hot k.val c2 := fun k => by
    rw [mul_add_hot _ _ (add_nonneg (hot_nonneg _ _) (hot_nonneg _ _)), mul_add_hot _ _ (hot_nonneg _ _)]
  rw [Finset.sum_congr rfl fun k _ => e k]
  simp only [Finset.sum_add_distrib, sum_hot a _ h0, sum_hot a _ h1, sum_hot a _ h2]

/-- A sum against six ones is the six entries. -/
theorem sum_hot6 {N : ℕ} (a : Fin N → EReal) (c0 c1 c2 c3 c4 c5 : ℕ) (h0 : c0 < N) (h1 : c1 < N) (h2 : c2 < N)
    (h3 : c3 < N) (h4 : c4 < N) (h5 : c5 < N) :
    ∑ k : Fin N, a k * (hot k.val c0 + hot k.val c1 + hot k.val c2 + hot k.val c3 + hot k.val c4 + hot k.val c5)
      = a ⟨c0, h0⟩ + a ⟨c1, h1⟩ + a ⟨c2, h2⟩ + a ⟨c3, h3⟩ + a ⟨c4, h4⟩ + a ⟨c5, h5⟩ := by
  have p2 : ∀ k : Fin N, 0 ≤ hot k.val c0 + hot k.val c1 + hot k.val c2 := fun k =>
    add_nonneg (add_nonneg (hot_nonneg _ _) (hot_nonneg _ _)) (hot_nonneg _ _)
  have e : ∀ k : Fin N,
      a k * (hot k.val c0 + hot k.val c1 + hot k.val c2 + hot k.val c3 + hot k.val c4 + hot k.val c5)
      = a k * (hot k.val c0 + hot k.val c1 + hot k.val c2) + a k * hot k.val c3 + a k * hot k.val c4
        + a k * hot k.val c5 := fun k => by
    rw [mul_add_hot _ _ (add_nonneg (add_nonneg (p2 k) (hot_nonneg _ _)) (hot_nonneg _ _)),
      mul_add_hot _ _ (add_nonneg (p2 k) (hot_nonneg _ _)), mul_add_hot _ _ (p2 k)]
  rw [Finset.sum_congr rfl fun k _ => e k]
  simp only [Finset.sum_add_distrib, sum_hot3 a _ _ _ h0 h1 h2, sum_hot a _ h3, sum_hot a _ h4, sum_hot a _ h5]

end Cert.Words

end
-- ==== Proof.BlockAt.lean ====
module

public import proofs.«01_k».proof.Proof.Scratch
public import proofs.«01_k».proof.Proof.Spec
public import proofs.«01_k».proof.Proof.Words

@[expose] public section

set_option maxRecDepth 16384

noncomputable section

open Idealize.ShloMosaic Idealize.SL.Sem

namespace Cert.KernelIdeal.Gen

open Cert.Spec Cert.Words

/-! # What the kernel computes for one feature column, from its eight matrices -/

variable (x : Vec Ideal S1165x2048 .f32) (s0 : Vec Ideal S111x102 .f32) (s1 : Vec Ideal S111x4 .f32)
  (s2 : Vec Ideal S111x112 .f32) (s3 : Vec Ideal S128x1166 .f32) (s4 : Vec Ideal S165x70 .f32)
  (s5 : Vec Ideal S165x37 .f32) (s6 : Vec Ideal S165x32 .f32) (s7 : Vec Ideal S165x33 .f32)

/-- Column `b` of a block of features. -/
def col (b : Fin 2048) : Fin 1165 → EReal := fun k => x (ix2 k b)

/-- Row `r` of the first filter layer, for a column with ids `n`. -/
def lay1 (s0 : Vec Ideal S111x102 .f32) (s1 : Vec Ideal S111x4 .f32) (xc : Fin 1165 → EReal) (n : Ids) (r : Fin 111) :
    EReal :=
  (s0 (ix2 r ⟨(n.c 0).val, by omega⟩) + s0 (ix2 r ⟨(n.c 1).val + 30, by omega⟩)
      + s0 (ix2 r ⟨(n.c 2).val + 60, by omega⟩) + s0 (ix2 r ⟨(n.o 0).val + 90, by omega⟩)
      + s0 (ix2 r ⟨(n.o 1).val + 94, by omega⟩) + s0 (ix2 r ⟨(n.o 2).val + 98, by omega⟩))
    + ((∑ k : Fin 3, s1 (ix2 r ⟨k.val, by omega⟩) * xc ⟨8 + k.val, by omega⟩) + s1 (ix2 r 3))

/-- Row `r` of the histogram and sample layers. -/
def layS (s3 : Vec Ideal S128x1166 .f32) (xc : Fin 1165 → EReal) (r : Fin 128) : EReal :=
  (∑ k : Fin 1165, s3 (ix2 r ⟨k.val, by omega⟩) * xc k) + s3 (ix2 r 1165)

variable {x s0 s1 s2 s3 s4 s5 s6 s7} {b : Fin 2048} {n : Ids}

/-- The block of features as the kernel holds it is the block. -/
theorem block_eq : k0_pay50 x = x := by
  funext i
  obtain ⟨k, b, rfl⟩ : ∃ k b, i = ix2 k b := ⟨i 0, i 1, by funext a; fin_cases a <;> rfl⟩
  pointwise [k0_pay50]

/-- The second filter layer. -/
theorem filt2_apply (h : n.Of (col x b)) (r : Fin 111) :
    filt2 x s0 s1 s2 (ix2 r b)
      = leaky ((∑ k : Fin 111, s2 (ix2 r ⟨k.val, by omega⟩) * leaky (lay1 s0 s1 (col x b) n k)) + s2 (ix2 r 111)) := by
  have w0 : FloatOps.fptosi (F := Ideal) (φ := .f32) 32 (x (ix2 2 b)) = BitVec.ofNat 32 (n.c 0).val := h.c 0
  have w1 : FloatOps.fptosi (F := Ideal) (φ := .f32) 32 (x (ix2 3 b)) = BitVec.ofNat 32 (n.c 1).val := h.c 1
  have w2 : FloatOps.fptosi (F := Ideal) (φ := .f32) 32 (x (ix2 4 b)) = BitVec.ofNat 32 (n.c 2).val := h.c 2
  have w3 : FloatOps.fptosi (F := Ideal) (φ := .f32) 32 (x (ix2 5 b)) = BitVec.ofNat 32 (n.o 0).val := h.o 0
  have w4 : FloatOps.fptosi (F := Ideal) (φ := .f32) 32 (x (ix2 6 b)) = BitVec.ofNat 32 (n.o 1).val := h.o 1
  have w5 : FloatOps.fptosi (F := Ideal) (φ := .f32) 32 (x (ix2 7 b)) = BitVec.ofNat 32 (n.o 2).val := h.o 2
  pointwise [filt2, k0_pay60, k0_pay53, k0_pay54, k0_pay57, k0_pay58, k0_pay59]
  simp only [block_eq]
  simp only [w0, w1, w2, w3, w4, w5, add_word, Fin.sum_univ_one]
  simp (disch := omega) only [hot_word]
  have key : ∀ r : Fin 111, (∑ k : Fin 102, s0 (ix2 r k) * (hot k.val (n.c 0).val + hot k.val ((n.c 1).val + 30)
      + hot k.val ((n.c 2).val + 60) + hot k.val ((n.o 0).val + 90) + hot k.val ((n.o 1).val + 94)
      + hot k.val ((n.o 2).val + 98)) : EReal) = _ := fun r =>
    sum_hot6 (fun z => s0 (ix2 r z)) _ _ _ _ _ _ (by omega) (by omega) (by omega) (by omega) (by omega) (by omega)
  simp only [key]
  rfl

/-- The filter embedding. -/
theorem filtE_apply (o : Fin 37) :
    filtE x s0 s1 s2 (ix2 o b)
      = Ideal.div (masked (col x b) 0 (filt2 x s0 s1 s2 (ix2 ⟨o.val, by omega⟩ b))
          + masked (col x b) 1 (filt2 x s0 s1 s2 (ix2 ⟨37 + o.val, by omega⟩ b))
          + masked (col x b) 2 (filt2 x s0 s1 s2 (ix2 ⟨74 + o.val, by omega⟩ b))) (count (col x b)) := by
  pointwise [filtE, k0_pay65, k0_pay55, k0_pay61, k0_pay62, k0_pay63, k0_pay64, k0_pay50]
  unfold Spec.count
  rw [Fin.sum_univ_three]
  rfl

/-- The histogram embedding. -/
theorem histE_apply (e : Fin 32) :
    histE x s3 (ix2 e b)
      = Ideal.div (masked (col x b) 0 (layS s3 (col x b) ⟨e.val, by omega⟩)
          + masked (col x b) 1 (layS s3 (col x b) ⟨32 + e.val, by omega⟩)
          + masked (col x b) 2 (layS s3 (col x b) ⟨64 + e.val, by omega⟩)) (count (col x b)) := by
  pointwise [histE, k0_pay67, k0_pay50, k0_pay55, k0_pay57, k0_pay61, k0_pay66]
  unfold Spec.count
  rw [Fin.sum_univ_three]
  simp only [Fin.sum_univ_one]
  rfl

/-- The sample layer. -/
theorem sampE_apply (e : Fin 32) :
    sampE x s3 (ix2 e b) = layS s3 (col x b) ⟨96 + e.val, by omega⟩ := by
  pointwise [sampE, k0_pay50, k0_pay57, k0_pay68, k0_pay66]
  simp only [Fin.sum_univ_one]
  rfl

/-- The block's entry. -/
theorem blockOut_apply (h : n.Of (col x b)) (o : Fin 165) :
    blockOut x s0 s1 s2 s3 s4 s5 s6 s7 (ix2 o b)
      = leaky ((s4 (ix2 o ⟨n.t.val, by omega⟩) + s4 (ix2 o ⟨n.j.val + 20, by omega⟩) + s4 (ix2 o ⟨n.b.val + 60, by omega⟩))
          + (∑ k : Fin 37, s5 (ix2 o k) * filtE x s0 s1 s2 (ix2 k b))
          + (∑ k : Fin 32, s6 (ix2 o k) * sampE x s3 (ix2 k b))
          + ((∑ k : Fin 32, s7 (ix2 o ⟨k.val, by omega⟩) * histE x s3 (ix2 k b)) + s7 (ix2 o 32))) := by
  have w0 : FloatOps.fptosi (F := Ideal) (φ := .f32) 32 (x (ix2 0 b)) = BitVec.ofNat 32 (n.t).val := h.t
  have w1 : FloatOps.fptosi (F := Ideal) (φ := .f32) 32 (x (ix2 1 b)) = BitVec.ofNat 32 (n.j).val := h.j
  have w2 : FloatOps.fptosi (F := Ideal) (φ := .f32) 32 (x (ix2 164 b)) = BitVec.ofNat 32 (n.b).val := h.b
  unfold blockOut
  generalize filtE x s0 s1 s2 = A
  generalize histE x s3 = B
  generalize sampE x s3 = C
  pointwise [k0_pay1, k0_pay51, k0_pay52, k0_pay56, k0_pay57, k0_pay50]
  simp (disch := omega) only [w0, w1, w2, add_word, hot_word, sum_hot3 (fun z => s4 (ix2 _ z)), Fin.sum_univ_one]
  rfl

end Cert.KernelIdeal.Gen

end
-- ==== Proof.Pieces.lean ====
module

public import Idealize.ShloMosaic.Lib.Pipeline.FrameBody
public import Idealize.ShloMosaic.Lib.Pointwise

@[expose] public section

noncomputable section

open Idealize.ShloMosaic Idealize.SL.Sem

namespace Cert.Pieces

/-! # A matrix built from rectangles, read at one entry -/

variable {Val : EltTy → Type} [∀ e, Nonempty (Val e)] {e : EltTy} {n m : ℕ}

/-- An entry the latest rectangle holds is that rectangle's entry. -/
theorem canon_in {o0 o1 s0 s1 : ℕ} {inb : ∀ a : Fin 2, ![o0, o1] a + ![s0, s1] a ≤ (⟨2, ![n, m]⟩ : Shape).size a}
    {w : (⟨2, ![s0, s1]⟩ : Shape).Idx → Val e} {L : List (View.Piece Val ⟨2, ![n, m]⟩ e)} {r : Fin n} {k : Fin m}
    (r' : Fin s0) (k' : Fin s1) (hr : r.val = o0 + r'.val) (hk : k.val = o1 + k'.val) :
    View.canon (Val := Val) (s := ⟨2, ![n, m]⟩) (e := e)
      (⟨Rect.unit (s := ⟨2, ![n, m]⟩) ![o0, o1] ![s0, s1] inb, w⟩ :: L) (ix2 r k) = w (ix2 r' k') := by
  have e : (ix2 r k : (⟨2, ![n, m]⟩ : Shape).Idx) = (Rect.unit (s := ⟨2, ![n, m]⟩) ![o0, o1] ![s0, s1] inb).emb
      (ix2 r' k' : (⟨2, ![s0, s1]⟩ : Shape).Idx) := by
    funext a
    apply Fin.ext
    rcases (show a = 0 ∨ a = 1 by fin_cases a <;> simp) with rfl | rfl
    · rw [Rect.emb_apply]
      show r.val = o0 + 1 * r'.val
      omega
    · rw [Rect.emb_apply]
      show k.val = o1 + 1 * k'.val
      omega
  rw [e]
  exact View.canon_cons_emb _ _ _ _

/-- An entry the latest rectangle does not hold is an entry of the earlier ones. -/
theorem canon_out {o0 o1 s0 s1 : ℕ} {inb : ∀ a : Fin 2, ![o0, o1] a + ![s0, s1] a ≤ (⟨2, ![n, m]⟩ : Shape).size a}
    {w : (⟨2, ![s0, s1]⟩ : Shape).Idx → Val e} {L : List (View.Piece Val ⟨2, ![n, m]⟩ e)} {r : Fin n} {k : Fin m}
    (h : ¬ ((o0 ≤ r.val ∧ r.val < o0 + s0) ∧ (o1 ≤ k.val ∧ k.val < o1 + s1))) :
    View.canon (Val := Val) (s := ⟨2, ![n, m]⟩) (e := e)
      (⟨Rect.unit (s := ⟨2, ![n, m]⟩) ![o0, o1] ![s0, s1] inb, w⟩ :: L) (ix2 r k) = View.canon L (ix2 r k) := by
  refine View.canon_cons_of_not_mem _ _ fun hm => h ?_
  have hm' := (Rect.mem_set_unit (inb := inb)).mp hm
  exact ⟨hm' 0, hm' 1⟩

end Cert.Pieces

end
-- ==== Proof.ScratchAt.lean ====
module

public import proofs.«01_k».proof.Proof.Scratch
public import proofs.«01_k».proof.Proof.Pieces
public import proofs.«01_k».proof.Proof.Words

@[expose] public section

set_option maxRecDepth 16384

noncomputable section

open Idealize.ShloMosaic Idealize.SL.Sem

namespace Cert.KernelIdeal.Gen

open Cert.Pieces Cert.Words

/-! # The eight matrices, entry by entry -/

variable (wf : Vec Ideal S37x37 .f32) (ce : Vec Ideal S30x32 .f32) (oe : Vec Ideal S4x4 .f32) (bf : Vec Ideal S37 .f32)
  (ws : Vec Ideal S32x1000 .f32) (wh : Vec Ideal S32x50 .f32) (bh : Vec Ideal S32 .f32) (te : Vec Ideal S20x32 .f32)
  (tab : Vec Ideal S10x32 .f32) (je : Vec Ideal S40x32 .f32) (wp : Vec Ideal S165x165 .f32) (bs : Vec Ideal S32 .f32)
  (bp : Vec Ideal S165 .f32)

/-! ## The filter layer's matrix -/

/-- The layer's column part for column id `k`. -/
def colEntry (f : Fin 37) (k : Fin 30) : EReal := ∑ x : Fin 32, ce (ix2 k x) * wf (ix2 f ⟨x.val, by omega⟩)

/-- The layer's operation part for operation id `k`. -/
def opEntry (f : Fin 37) (k : Fin 4) : EReal := ∑ x : Fin 4, oe (ix2 k x) * wf (ix2 f ⟨32 + x.val, by omega⟩)

/-- The column part that filter 0 takes. -/
theorem pay5_apply (f : Fin 37) (k : Fin 30) : k0_pay5 wf ce (ix2 f k) = colEntry wf ce f k := by
  pointwise [k0_pay5, k0_pay2]
  exact Finset.sum_congr rfl fun x _ => mul_comm _ _

/-- The operation part that filter 0 takes. -/
theorem pay8_apply (f : Fin 37) (k : Fin 4) : k0_pay8 wf oe (ix2 f k) = opEntry wf oe f k := by
  pointwise [k0_pay8, k0_pay3]
  exact Finset.sum_congr rfl fun x _ => mul_comm _ _

/-- The column part that filter 1 takes. -/
theorem pay6_apply (f : Fin 37) (k : Fin 30) : k0_pay6 wf ce (ix2 f k) = colEntry wf ce f k := by
  pointwise [k0_pay6, k0_pay2]
  exact Finset.sum_congr rfl fun x _ => mul_comm _ _

/-- The column part that filter 2 takes. -/
theorem pay7_apply (f : Fin 37) (k : Fin 30) : k0_pay7 wf ce (ix2 f k) = colEntry wf ce f k := by
  pointwise [k0_pay7, k0_pay2]
  exact Finset.sum_congr rfl fun x _ => mul_comm _ _

/-- The operation part that filter 1 takes. -/
theorem pay9_apply (f : Fin 37) (k : Fin 4) : k0_pay9 wf oe (ix2 f k) = opEntry wf oe f k := by
  pointwise [k0_pay9, k0_pay3]
  exact Finset.sum_congr rfl fun x _ => mul_comm _ _

/-- The operation part that filter 2 takes. -/
theorem pay10_apply (f : Fin 37) (k : Fin 4) : k0_pay10 (k0_pay3 wf oe) (ix2 f k) = opEntry wf oe f k := by
  pointwise [k0_pay10, k0_pay3]
  exact Finset.sum_congr rfl fun x _ => mul_comm _ _

/-- The filter layer's matrix is first filled with zeros. -/
theorem pay4_apply (r : Fin 111) (q : Fin 102) : k0_pay4 (F := Ideal) (ix2 r q) = (0 : EReal) := by
  pointwise [k0_pay4]

/-- Row `f` of filter `i` against column id `k` of filter `j`. -/
theorem scr0_col (i j : ℕ) (hi : i < 3) (hj : j < 3) (f : Fin 37) (k : Fin 30) (r : Fin 111) (q : Fin 102)
    (hr : r.val = 37 * i + f.val) (hq : q.val = 30 * j + k.val) :
    scr0 wf ce oe (ix2 r q) = if i = j then colEntry wf ce f k else 0 := by
  unfold scr0
  obtain rfl | rfl | rfl : i = 0 ∨ i = 1 ∨ i = 2 := by omega
  all_goals obtain rfl | rfl | rfl : j = 0 ∨ j = 1 ∨ j = 2 := by omega
  all_goals repeat rw [canon_out (by omega)]
  all_goals
    first
    | rw [canon_in f k (by omega) (by omega), if_pos rfl]
      first
      | exact pay5_apply wf ce f k
      | exact pay6_apply wf ce f k
      | exact pay7_apply wf ce f k
    | rw [canon_in r q (by omega) (by omega), if_neg (by omega)]
      exact pay4_apply r q

/-- Row `f` of filter `i` against operation id `k` of filter `j`. -/
theorem scr0_op (i j : ℕ) (hi : i < 3) (hj : j < 3) (f : Fin 37) (k : Fin 4) (r : Fin 111) (q : Fin 102)
    (hr : r.val = 37 * i + f.val) (hq : q.val = 90 + 4 * j + k.val) :
    scr0 wf ce oe (ix2 r q) = if i = j then opEntry wf oe f k else 0 := by
  unfold scr0
  obtain rfl | rfl | rfl : i = 0 ∨ i = 1 ∨ i = 2 := by omega
  all_goals obtain rfl | rfl | rfl : j = 0 ∨ j = 1 ∨ j = 2 := by omega
  all_goals repeat rw [canon_out (by omega)]
  all_goals
    first
    | rw [canon_in f k (by omega) (by omega), if_pos rfl]
      first
      | exact pay8_apply wf oe f k
      | exact pay9_apply wf oe f k
      | exact pay10_apply wf oe f k
    | rw [canon_in r q (by omega) (by omega), if_neg (by omega)]
      exact pay4_apply r q

/-! ## The filter layer's value column and bias -/

/-- The matrix of values and biases is first filled with zeros. -/
theorem pay13_apply (r : Fin 111) (q : Fin 4) : k0_pay13 (F := Ideal) (ix2 r q) = (0 : EReal) := by
  pointwise [k0_pay13]

/-- The filter layer's weights of the value, as a column. -/
theorem pay11_apply (f : Fin 37) (k : Fin 1) : k0_pay11 wf (ix2 f k) = wf (ix2 f 36) := by
  pointwise [k0_pay11]

/-- The filter layer's bias, as a column. -/
theorem pay12_apply (f : Fin 37) (k : Fin 1) : k0_pay12 bf (ix2 f k) = bf (ix1 f) := by
  pointwise [k0_pay12]
  exact sum_pick (by omega) f (fun x => bf (ix1 x))

/-- The value's weights that filter 0 takes. -/
theorem pay14_apply (f : Fin 37) (k : Fin 1) : k0_pay14 wf (ix2 f k) = wf (ix2 f 36) := by
  pointwise [k0_pay14]
  exact pay11_apply wf f k

/-- The value's weights that filter 1 takes. -/
theorem pay15_apply (f : Fin 37) (k : Fin 1) : k0_pay15 wf (ix2 f k) = wf (ix2 f 36) := by
  pointwise [k0_pay15]
  exact pay11_apply wf f k

/-- The value's weights that filter 2 takes. -/
theorem pay16_apply (f : Fin 37) (k : Fin 1) : k0_pay16 wf (ix2 f k) = wf (ix2 f 36) := by
  pointwise [k0_pay16]
  exact pay11_apply wf f k

/-- The bias that filter 0 takes. -/
theorem pay17_apply (f : Fin 37) (k : Fin 1) : k0_pay17 bf (ix2 f k) = bf (ix1 f) := by
  pointwise [k0_pay17]
  exact pay12_apply bf f k

/-- The bias that filter 1 takes. -/
theorem pay18_apply (f : Fin 37) (k : Fin 1) : k0_pay18 bf (ix2 f k) = bf (ix1 f) := by
  pointwise [k0_pay18]
  exact pay12_apply bf f k

/-- The bias that filter 2 takes. -/
theorem pay19_apply (f : Fin 37) (k : Fin 1) : k0_pay19 bf (ix2 f k) = bf (ix1 f) := by
  pointwise [k0_pay19]
  exact pay12_apply bf f k

/-- Row `f` of filter `i` against the value of filter `j`. -/
theorem scr1_val (i j : ℕ) (hi : i < 3) (hj : j < 3) (f : Fin 37) (r : Fin 111) (q : Fin 4)
    (hr : r.val = 37 * i + f.val) (hq : q.val = j) :
    scr1 wf bf (ix2 r q) = if i = j then wf (ix2 f 36) else 0 := by
  unfold scr1
  have h0 : (0 : Fin 1).val = 0 := rfl
  obtain rfl | rfl | rfl : i = 0 ∨ i = 1 ∨ i = 2 := by omega
  all_goals obtain rfl | rfl | rfl : j = 0 ∨ j = 1 ∨ j = 2 := by omega
  all_goals repeat rw [canon_out (by omega)]
  all_goals
    first
    | rw [canon_in f 0 (by omega) (by omega), if_pos rfl]
      first
      | exact pay14_apply wf f 0
      | exact pay15_apply wf f 0
      | exact pay16_apply wf f 0
    | rw [canon_in r q (by omega) (by omega), if_neg (by omega)]
      exact pay13_apply r q

/-- The bias of row `f` of filter `i`. -/
theorem scr1_bias (i : ℕ) (hi : i < 3) (f : Fin 37) (r : Fin 111) (hr : r.val = 37 * i + f.val) :
    scr1 wf bf (ix2 r 3) = bf (ix1 f) := by
  unfold scr1
  have h0 : (0 : Fin 1).val = 0 := rfl
  have h3 : (3 : Fin 4).val = 3 := rfl
  obtain rfl | rfl | rfl : i = 0 ∨ i = 1 ∨ i = 2 := by omega
  all_goals repeat rw [canon_out (by omega)]
  all_goals rw [canon_in f 0 (by omega) (by omega)]
  · exact pay17_apply bf f 0
  · exact pay18_apply bf f 0
  · exact pay19_apply bf f 0

/-! ## The second filter layer's matrix -/

/-- The second layer's matrix is first filled with zeros. -/
theorem pay21_apply (r : Fin 111) (q : Fin 112) : k0_pay21 (F := Ideal) (ix2 r q) = (0 : EReal) := by
  pointwise [k0_pay21]

/-- The second layer's weights that filter 0 takes. -/
theorem pay22_apply (f g : Fin 37) : k0_pay22 wf (ix2 f g) = wf (ix2 f g) := by
  pointwise [k0_pay22]

/-- The second layer's weights that filter 1 takes. -/
theorem pay23_apply (f g : Fin 37) : k0_pay23 wf (ix2 f g) = wf (ix2 f g) := by
  pointwise [k0_pay23]

/-- The second layer's weights that filter 2 takes. -/
theorem pay24_apply (f g : Fin 37) : k0_pay24 wf (ix2 f g) = wf (ix2 f g) := by
  pointwise [k0_pay24]

/-- The second layer's bias that filter 0 takes. -/
theorem pay25_apply (f : Fin 37) (k : Fin 1) : k0_pay25 bf (ix2 f k) = bf (ix1 f) := by
  pointwise [k0_pay25, k0_pay20]
  exact sum_pick (by omega) f (fun x => bf (ix1 x))

/-- The second layer's bias that filter 1 takes. -/
theorem pay26_apply (f : Fin 37) (k : Fin 1) : k0_pay26 bf (ix2 f k) = bf (ix1 f) := by
  pointwise [k0_pay26, k0_pay20]
  exact sum_pick (by omega) f (fun x => bf (ix1 x))

/-- The second layer's bias that filter 2 takes. -/
theorem pay27_apply (f : Fin 37) (k : Fin 1) : k0_pay27 (k0_pay20 bf) (ix2 f k) = bf (ix1 f) := by
  pointwise [k0_pay27, k0_pay20]
  exact sum_pick (by omega) f (fun x => bf (ix1 x))

/-- Row `f` of filter `i` against row `g` of filter `j`. -/
theorem scr2_w (i j : ℕ) (hi : i < 3) (hj : j < 3) (f g : Fin 37) (r : Fin 111) (q : Fin 112)
    (hr : r.val = 37 * i + f.val) (hq : q.val = 37 * j + g.val) :
    scr2 wf bf (ix2 r q) = if i = j then wf (ix2 f g) else 0 := by
  unfold scr2
  obtain rfl | rfl | rfl : i = 0 ∨ i = 1 ∨ i = 2 := by omega
  all_goals obtain rfl | rfl | rfl : j = 0 ∨ j = 1 ∨ j = 2 := by omega
  all_goals repeat rw [canon_out (by omega)]
  all_goals
    first
    | rw [canon_in f g (by omega) (by omega), if_pos rfl]
      first
      | exact pay22_apply wf f g
      | exact pay23_apply wf f g
      | exact pay24_apply wf f g
    | rw [canon_in r q (by omega) (by omega), if_neg (by omega)]
      exact pay21_apply r q

/-- The bias of row `f` of filter `i`. -/
theorem scr2_bias (i : ℕ) (hi : i < 3) (f : Fin 37) (r : Fin 111) (hr : r.val = 37 * i + f.val) :
    scr2 wf bf (ix2 r 111) = bf (ix1 f) := by
  unfold scr2
  have h0 : (0 : Fin 1).val = 0 := rfl
  have h3 : (111 : Fin 112).val = 111 := rfl
  obtain rfl | rfl | rfl : i = 0 ∨ i = 1 ∨ i = 2 := by omega
  all_goals repeat rw [canon_out (by omega)]
  all_goals rw [canon_in f 0 (by omega) (by omega)]
  · exact pay25_apply bf f 0
  · exact pay26_apply bf f 0
  · exact pay27_apply bf f 0

/-! ## The histogram and sample layers' matrix -/

/-- The matrix of histograms and sample is first filled with zeros. -/
theorem pay28_apply (r : Fin 128) (q : Fin 1166) : k0_pay28 (F := Ideal) (ix2 r q) = (0 : EReal) := by
  pointwise [k0_pay28]

/-- A histogram's weights against the feature rows: row `3 c + j` meets bin `c` of histogram `j`. -/
theorem sum_bins (w : Fin 50 → EReal) (i j : ℕ) (hi : i < 3) (hj : j < 3) (c : Fin 50) :
    ∑ x : Fin 50, w x * hot (3 * c.val + j) (3 * x.val + i) = if i = j then w c else 0 := by
  by_cases h : i = j
  · subst h
    rw [if_pos rfl, Finset.sum_eq_single c]
    · simp [hot]
    · intro x _ hx
      rw [hot, if_neg (fun e => hx (Fin.ext (by omega))), mul_zero]
    · exact fun h' => absurd (Finset.mem_univ _) h'
  · rw [if_neg h]
    refine Finset.sum_eq_zero fun x _ => ?_
    rw [hot, if_neg (by omega), mul_zero]

/-- The histogram weights of histogram 0: bin `c` stands at every third column. -/
theorem pay30_apply (e : Fin 32) (k : Fin 150) (j : ℕ) (hj : j < 3) (c : Fin 50) (hk : k.val = 3 * c.val + j) :
    k0_pay30 wh (ix2 e k) = if 0 = j then wh (ix2 e c) else 0 := by
  pointwise [k0_pay30]
  simp (disch := omega) only [mul_word, add_word, hot_word, hk]
  exact sum_bins (fun x => wh (ix2 e x)) 0 j (by omega) hj c

/-- The histogram weights of histogram 1: bin `c` stands at every third column. -/
theorem pay33_apply (e : Fin 32) (k : Fin 150) (j : ℕ) (hj : j < 3) (c : Fin 50) (hk : k.val = 3 * c.val + j) :
    k0_pay33 wh k0_pay32 (ix2 e k) = if 1 = j then wh (ix2 e c) else 0 := by
  pointwise [k0_pay33, k0_pay32]
  simp (disch := omega) only [mul_word, add_word, hot_word, hk]
  exact sum_bins (fun x => wh (ix2 e x)) 1 j (by omega) hj c

/-- The histogram weights of histogram 2: bin `c` stands at every third column. -/
theorem pay35_apply (e : Fin 32) (k : Fin 150) (j : ℕ) (hj : j < 3) (c : Fin 50) (hk : k.val = 3 * c.val + j) :
    k0_pay35 (iota Kind.tc S150x50 32 [0] iota_S150x50_d0_w32) (iota Kind.tc S150x50 32 [1] iota_S150x50_d1_w32) wh
      (ix2 e k) = if 2 = j then wh (ix2 e c) else 0 := by
  pointwise [k0_pay35]
  simp (disch := omega) only [mul_word, add_word, hot_word, hk]
  exact sum_bins (fun x => wh (ix2 e x)) 2 j (by omega) hj c

/-- The histogram bias of histogram 0. -/
theorem pay31_apply (e : Fin 32) (k : Fin 1) : k0_pay31 bh (ix2 e k) = bh (ix1 e) := by
  pointwise [k0_pay31, k0_pay29]
  exact sum_pick (by omega) e (fun x => bh (ix1 x))

/-- The histogram bias of histogram 1. -/
theorem pay34_apply (e : Fin 32) (k : Fin 1) : k0_pay34 (k0_pay29 bh) (ix2 e k) = bh (ix1 e) := by
  pointwise [k0_pay34, k0_pay29]
  exact sum_pick (by omega) e (fun x => bh (ix1 x))

/-- The histogram bias of histogram 2. -/
theorem pay36_apply (e : Fin 32) (k : Fin 1) : k0_pay36 (k0_pay29 bh) (ix2 e k) = bh (ix1 e) := by
  pointwise [k0_pay36, k0_pay29]
  exact sum_pick (by omega) e (fun x => bh (ix1 x))

/-- The sample layer's weights. -/
theorem pay37_apply (e : Fin 32) (k : Fin 1000) : k0_pay37 ws (ix2 e k) = ws (ix2 e k) := by
  pointwise [k0_pay37]

/-- Row `e` of histogram `i` against bin `c` of histogram `j`. -/
theorem scr3_bin (i j : ℕ) (hi : i < 3) (hj : j < 3) (e : Fin 32) (c : Fin 50) (r : Fin 128) (q : Fin 1166)
    (hr : r.val = 32 * i + e.val) (hq : q.val = 14 + (3 * c.val + j)) :
    scr3 ws wh bh (ix2 r q) = if i = j then wh (ix2 e c) else 0 := by
  unfold scr3
  have hk : 3 * c.val + j < 150 := by omega
  obtain rfl | rfl | rfl : i = 0 ∨ i = 1 ∨ i = 2 := by omega
  all_goals repeat rw [canon_out (by omega)]
  all_goals rw [canon_in e ⟨3 * c.val + j, hk⟩ (by omega) (by simp only []; omega)]
  · exact pay30_apply wh e _ j hj c rfl
  · exact pay33_apply wh e _ j hj c rfl
  · exact pay35_apply wh e _ j hj c rfl

/-- A histogram's row meets no other feature. -/
theorem scr3_rest (i : ℕ) (hi : i < 3) (e : Fin 32) (r : Fin 128) (q : Fin 1166)
    (hr : r.val = 32 * i + e.val) (hq : q.val < 14 ∨ (164 ≤ q.val ∧ q.val < 1165)) :
    scr3 ws wh bh (ix2 r q) = (0 : EReal) := by
  unfold scr3
  obtain rfl | rfl | rfl : i = 0 ∨ i = 1 ∨ i = 2 := by omega
  all_goals repeat rw [canon_out (by omega)]
  all_goals
    rw [canon_in r q (by omega) (by omega)]
    exact pay28_apply r q

/-- The bias of row `e` of histogram `i`. -/
theorem scr3_bias (i : ℕ) (hi : i < 3) (e : Fin 32) (r : Fin 128) (hr : r.val = 32 * i + e.val) :
    scr3 ws wh bh (ix2 r 1165) = bh (ix1 e) := by
  unfold scr3
  have h0 : (0 : Fin 1).val = 0 := rfl
  have h3 : (1165 : Fin 1166).val = 1165 := rfl
  obtain rfl | rfl | rfl : i = 0 ∨ i = 1 ∨ i = 2 := by omega
  all_goals repeat rw [canon_out (by omega)]
  all_goals rw [canon_in e 0 (by omega) (by omega)]
  · exact pay31_apply bh e 0
  · exact pay34_apply bh e 0
  · exact pay36_apply bh e 0

/-- Row `e` of the sample layer against sample `k`. -/
theorem scr3_sample (e : Fin 32) (k : Fin 1000) (r : Fin 128) (q : Fin 1166) (hr : r.val = 96 + e.val)
    (hq : q.val = 165 + k.val) : scr3 ws wh bh (ix2 r q) = ws (ix2 e k) := by
  unfold scr3
  rw [canon_in e k (by omega) (by omega)]
  exact pay37_apply ws e k

/-- The sample layer's row meets no other feature. -/
theorem scr3_sample_rest (e : Fin 32) (r : Fin 128) (q : Fin 1166) (hr : r.val = 96 + e.val)
    (hq : q.val < 165 ∨ q.val = 1165) : scr3 ws wh bh (ix2 r q) = (0 : EReal) := by
  unfold scr3
  repeat rw [canon_out (by omega)]
  rw [canon_in r q (by omega) (by omega)]
  exact pay28_apply r q

/-! ## The last layer's matrices -/

/-- The type rows through the last layer. -/
theorem pay38_apply (o : Fin 165) (k : Fin 20) :
    k0_pay38 wp te (ix2 o k) = ∑ x : Fin 32, te (ix2 k x) * wp (ix2 o ⟨x.val, by omega⟩) := by
  pointwise [k0_pay38]
  exact Finset.sum_congr rfl fun x _ => mul_comm _ _

/-- The join rows through the last layer. -/
theorem pay40_apply (o : Fin 165) (k : Fin 40) :
    k0_pay40 (k0_pay39 wp) je (ix2 o k) = ∑ x : Fin 32, je (ix2 k x) * wp (ix2 o ⟨69 + x.val, by omega⟩) := by
  pointwise [k0_pay40, k0_pay39]
  exact Finset.sum_congr rfl fun x _ => mul_comm _ _

/-- The table rows through the last layer. -/
theorem pay41_apply (o : Fin 165) (k : Fin 10) :
    k0_pay41 wp tab (ix2 o k) = ∑ x : Fin 32, tab (ix2 k x) * wp (ix2 o ⟨101 + x.val, by omega⟩) := by
  pointwise [k0_pay41]
  exact Finset.sum_congr rfl fun x _ => mul_comm _ _

/-- The last layer against type id `k`. -/
theorem scr4_type (o : Fin 165) (k : Fin 20) (q : Fin 70) (hq : q.val = k.val) :
    scr4 te tab je wp (ix2 o q) = ∑ x : Fin 32, te (ix2 k x) * wp (ix2 o ⟨x.val, by omega⟩) := by
  unfold scr4
  rw [canon_out (by omega), canon_out (by omega), canon_in o k (by omega) (by omega)]
  exact pay38_apply te wp o k

/-- The last layer against join id `k`. -/
theorem scr4_join (o : Fin 165) (k : Fin 40) (q : Fin 70) (hq : q.val = k.val + 20) :
    scr4 te tab je wp (ix2 o q) = ∑ x : Fin 32, je (ix2 k x) * wp (ix2 o ⟨69 + x.val, by omega⟩) := by
  unfold scr4
  rw [canon_out (by omega), canon_in o k (by omega) (by omega)]
  exact pay40_apply je wp o k

/-- The last layer against table id `k`. -/
theorem scr4_table (o : Fin 165) (k : Fin 10) (q : Fin 70) (hq : q.val = k.val + 60) :
    scr4 te tab je wp (ix2 o q) = ∑ x : Fin 32, tab (ix2 k x) * wp (ix2 o ⟨101 + x.val, by omega⟩) := by
  unfold scr4
  rw [canon_in o k (by omega) (by omega)]
  exact pay41_apply tab wp o k

/-- The last layer's weights of the filter embedding. -/
theorem scr5_apply (o : Fin 165) (k : Fin 37) : scr5 wp (ix2 o k) = wp (ix2 o ⟨32 + k.val, by omega⟩) := by
  unfold scr5
  pointwise [k0_pay42]

/-- The last layer's weights of the table embedding and the sample. -/
theorem pay43_apply (o : Fin 165) (k : Fin 32) : k0_pay43 wp (ix2 o k) = wp (ix2 o ⟨101 + k.val, by omega⟩) := by
  pointwise [k0_pay43]

/-- The stored weights of the table embedding and the sample. -/
theorem scr6_apply (o : Fin 165) (k : Fin 32) : scr6 wp (ix2 o k) = wp (ix2 o ⟨101 + k.val, by omega⟩) := by
  unfold scr6
  pointwise [k0_pay44]
  exact pay43_apply wp o k

/-- The last layer's weights of the histogram embedding, as stored. -/
theorem pay45_apply (o : Fin 165) (k : Fin 32) : k0_pay45 wp (ix2 o k) = wp (ix2 o ⟨133 + k.val, by omega⟩) := by
  pointwise [k0_pay45]

/-- The bias that is left, as stored. -/
theorem pay49_apply (o : Fin 165) (k : Fin 1) : k0_pay49 k0_pay46 (k0_pay47 wp bp bs) k0_pay48 (ix2 o k)
    = bp (ix1 o) + ∑ x : Fin 32, bs (ix1 x) * wp (ix2 o ⟨101 + x.val, by omega⟩) := by
  pointwise [k0_pay49, k0_pay46, k0_pay47, k0_pay48]
  simp only [pay43_apply]
  exact sum_pick (by omega) o (fun z => bp (ix1 z) + ∑ x : Fin 32, bs (ix1 x) * wp (ix2 z ⟨101 + x.val, by omega⟩))

/-- The last layer's weights of the histogram embedding. -/
theorem scr7_w (o : Fin 165) (k : Fin 32) (q : Fin 33) (hq : q.val = k.val) :
    scr7 bs wp bp (ix2 o q) = wp (ix2 o ⟨133 + k.val, by omega⟩) := by
  unfold scr7
  rw [canon_out (by omega), canon_in o k (by omega) (by omega)]
  exact pay45_apply wp o k

/-- The bias that is left: the last layer's, and the sample layer's through the last layer. -/
theorem scr7_bias (o : Fin 165) : scr7 bs wp bp (ix2 o 32)
    = bp (ix1 o) + ∑ x : Fin 32, bs (ix1 x) * wp (ix2 o ⟨101 + x.val, by omega⟩) := by
  unfold scr7
  have h0 : (0 : Fin 1).val = 0 := rfl
  have h3 : (32 : Fin 33).val = 32 := rfl
  rw [canon_in o 0 (by omega) (by omega)]
  exact pay49_apply wp bs bp o 0

end Cert.KernelIdeal.Gen

end
-- ==== Proof.Distrib.lean ====
module

public import Mathlib.Data.EReal.Operations
public import Mathlib.Algebra.BigOperators.Fin
public import Mathlib.Algebra.BigOperators.Ring.Finset

@[expose] public section

noncomputable section

namespace Cert.Distrib

/-! # Multiplying out a sum of extended reals -/

/-- A finite weight multiplies out over two finite numbers and any third. -/
theorem mul_out (t s c w : EReal) (ht : t ≠ ⊤ ∧ t ≠ ⊥) (hc : c ≠ ⊤ ∧ c ≠ ⊥) (hw : w ≠ ⊤ ∧ w ≠ ⊥) :
    (t + (s + c)) * w = t * w + w * s + c * w := by
  lift t to ℝ using ht
  lift c to ℝ using hc
  lift w to ℝ using hw
  induction s with
  | coe s => norm_cast; ring
  | top =>
    rw [EReal.top_add_coe, EReal.coe_add_top]
    rcases lt_trichotomy w 0 with h | h | h
    · rw [EReal.top_mul_coe_of_neg h, EReal.coe_mul_top_of_neg h, ← EReal.coe_mul, ← EReal.coe_mul]
      simp
    · subst h
      simp
    · rw [EReal.top_mul_coe_of_pos h, EReal.coe_mul_top_of_pos h, ← EReal.coe_mul, ← EReal.coe_mul, EReal.coe_add_top,
        EReal.top_add_coe]
  | bot =>
    rw [EReal.bot_add, EReal.add_bot]
    rcases lt_trichotomy w 0 with h | h | h
    · rw [EReal.bot_mul_coe_of_neg h, EReal.coe_mul_bot_of_neg h, ← EReal.coe_mul, ← EReal.coe_mul, EReal.coe_add_top,
        EReal.top_add_coe]
    · subst h
      simp
    · rw [EReal.bot_mul_coe_of_pos h, EReal.coe_mul_bot_of_pos h, ← EReal.coe_mul, ← EReal.coe_mul]
      simp

/-- A sum over blocks of three is the sum over the blocks of the three. -/
theorem sum_threes (f : Fin 150 → EReal) :
    ∑ k : Fin 150, f k = ∑ c : Fin 50, ∑ j : Fin 3, f ⟨3 * c.val + j.val, by omega⟩ := by
  rw [← Equiv.sum_comp (finProdFinEquiv (m := 50) (n := 3)) f, Fintype.sum_prod_type]
  refine Finset.sum_congr rfl fun c _ => Finset.sum_congr rfl fun j _ => congrArg f (Fin.ext ?_)
  show j.val + 3 * c.val = 3 * c.val + j.val
  omega

end Cert.Distrib

end
-- ==== Proof.BlockValue.lean ====
module

public import proofs.«01_k».proof.Proof.BlockAt
public import proofs.«01_k».proof.Proof.ScratchAt
public import proofs.«01_k».proof.Proof.Distrib

@[expose] public section

set_option maxRecDepth 16384

noncomputable section

open Idealize.ShloMosaic Idealize.SL.Sem

namespace Cert.KernelIdeal.Gen

open Cert.Spec Cert.Words Cert.Distrib

/-! # What the kernel computes for one feature column, from the weights -/

/-- The kernel's weights, by coordinates. -/
def weightsOf (te : Vec Ideal S20x32 .f32) (tab : Vec Ideal S10x32 .f32) (ce : Vec Ideal S30x32 .f32)
    (oe : Vec Ideal S4x4 .f32) (je : Vec Ideal S40x32 .f32) (wf : Vec Ideal S37x37 .f32) (bf : Vec Ideal S37 .f32)
    (wf2 : Vec Ideal S37x37 .f32) (bf2 : Vec Ideal S37 .f32) (ws : Vec Ideal S32x1000 .f32) (bs : Vec Ideal S32 .f32)
    (wh : Vec Ideal S32x50 .f32) (bh : Vec Ideal S32 .f32) (wp : Vec Ideal S165x165 .f32) (bp : Vec Ideal S165 .f32) :
    Weights where
  te a b := te (ix2 a b)
  tab a b := tab (ix2 a b)
  ce a b := ce (ix2 a b)
  oe a b := oe (ix2 a b)
  je a b := je (ix2 a b)
  wf a b := wf (ix2 a b)
  bf a := bf (ix1 a)
  wf2 a b := wf2 (ix2 a b)
  bf2 a := bf2 (ix1 a)
  ws a b := ws (ix2 a b)
  bs a := bs (ix1 a)
  wh a b := wh (ix2 a b)
  bh a := bh (ix1 a)
  wp a b := wp (ix2 a b)
  bp a := bp (ix1 a)

variable {te : Vec Ideal S20x32 .f32} {tab : Vec Ideal S10x32 .f32} {ce : Vec Ideal S30x32 .f32}
  {oe : Vec Ideal S4x4 .f32} {je : Vec Ideal S40x32 .f32} {wf : Vec Ideal S37x37 .f32} {bf : Vec Ideal S37 .f32}
  {wf2 : Vec Ideal S37x37 .f32} {bf2 : Vec Ideal S37 .f32} {ws : Vec Ideal S32x1000 .f32} {bs : Vec Ideal S32 .f32}
  {wh : Vec Ideal S32x50 .f32} {bh : Vec Ideal S32 .f32} {wp : Vec Ideal S165x165 .f32} {bp : Vec Ideal S165 .f32}
  {x : Vec Ideal S1165x2048 .f32} {b : Fin 2048} {n : Ids} {xc : Fin 1165 → EReal}

/-- Row `f` of filter `i` in the first filter layer. -/
theorem lay1_eq (i : Fin 3) (f : Fin 37) (r : Fin 111) (hr : r.val = 37 * i.val + f.val) :
    lay1 (scr0 wf ce oe) (scr1 wf bf) xc n r
      = pre1 (weightsOf te tab ce oe je wf bf wf2 bf2 ws bs wh bh wp bp) xc n i f := by
  unfold lay1
  rw [Fin.sum_univ_three,
    scr0_col wf ce oe i.val 0 (by omega) (by omega) f (n.c 0) r _ hr (by simp only []; omega),
    scr0_col wf ce oe i.val 1 (by omega) (by omega) f (n.c 1) r _ hr (by simp only []; omega),
    scr0_col wf ce oe i.val 2 (by omega) (by omega) f (n.c 2) r _ hr (by simp only []; omega),
    scr0_op wf ce oe i.val 0 (by omega) (by omega) f (n.o 0) r _ hr (by simp only []; omega),
    scr0_op wf ce oe i.val 1 (by omega) (by omega) f (n.o 1) r _ hr (by simp only []; omega),
    scr0_op wf ce oe i.val 2 (by omega) (by omega) f (n.o 2) r _ hr (by simp only []; omega),
    scr1_val wf bf i.val 0 (by omega) (by omega) f r _ hr rfl,
    scr1_val wf bf i.val 1 (by omega) (by omega) f r _ hr rfl,
    scr1_val wf bf i.val 2 (by omega) (by omega) f r _ hr rfl,
    scr1_bias wf bf i.val (by omega) f r hr]
  have key : ∀ A B w v c : EReal, A + B + (w * v + c) = A + (B + v * w) + c := fun A B w v c => by
    rw [mul_comm w v]
    ac_rfl
  obtain rfl | rfl | rfl : i = 0 ∨ i = 1 ∨ i = 2 := by omega
  all_goals simp only [Fin.val_zero, Fin.val_one, Fin.val_two, Nat.reduceEqDiff, if_true, if_false, zero_ne_one,
    one_ne_zero, OfNat.ofNat_ne_zero, OfNat.zero_ne_ofNat, add_zero, zero_add, zero_mul]
  all_goals exact key _ _ _ _ _

/-- A part of the second filter layer: filter `i` meets filter `j` where they are the same. -/
theorem part2 (i j : Fin 3) (g : Fin 37) (r : Fin 111) (hr : r.val = 37 * i.val + g.val)
    (p : Fin 37 → Fin 111) (hp : ∀ f, (p f).val = 37 * j.val + f.val) :
    (∑ f : Fin 37, scr2 wf2 bf2 (ix2 r ⟨(p f).val, by omega⟩) * leaky (lay1 (scr0 wf ce oe) (scr1 wf bf) xc n (p f)))
      = if i = j then ∑ f : Fin 37, leaky (pre1 (weightsOf te tab ce oe je wf bf wf2 bf2 ws bs wh bh wp bp) xc n i f) * wf2 (ix2 g f) else 0 := by
  by_cases h : i = j
  · subst h
    rw [if_pos rfl]
    refine Finset.sum_congr rfl fun f _ => ?_
    rw [lay1_eq (te := te) (tab := tab) (je := je) (wf2 := wf2) (bf2 := bf2) (ws := ws) (bs := bs) (wh := wh) (bh := bh)
        (wp := wp) (bp := bp) i f (p f) (hp f),
      scr2_w wf2 bf2 i.val i.val (by omega) (by omega) g f r _ hr (hp f), if_pos rfl, mul_comm]
  · rw [if_neg h]
    refine Finset.sum_eq_zero fun f _ => ?_
    rw [scr2_w wf2 bf2 i.val j.val (by omega) (by omega) g f r _ hr (hp f), if_neg (fun e => h (Fin.ext e)), zero_mul]

/-- Row `g` of filter `i` in the second filter layer. -/
theorem filt2_eq (h : n.Of (col x b)) (i : Fin 3) (g : Fin 37) (r : Fin 111) (hr : r.val = 37 * i.val + g.val) :
    filt2 x (scr0 wf ce oe) (scr1 wf bf) (scr2 wf2 bf2) (ix2 r b) = leaky (pre2 (weightsOf te tab ce oe je wf bf wf2 bf2 ws bs wh bh wp bp) (col x b) n i g) := by
  rw [filt2_apply h, scr2_bias wf2 bf2 i.val (by omega) g r hr, sum_cut 37 74 rfl, sum_cut 37 37 rfl (N := 74)]
  rw [part2 (te := te) (tab := tab) (je := je) (ws := ws) (bs := bs) (wh := wh) (bh := bh) (wp := wp) (bp := bp)
      i 0 g r hr (fun f => ⟨f.val, by omega⟩) (fun f => by simp),
    part2 (te := te) (tab := tab) (je := je) (ws := ws) (bs := bs) (wh := wh) (bh := bh) (wp := wp) (bp := bp)
      i 1 g r hr (fun f => ⟨37 + f.val, by omega⟩) (fun f => by simp),
    part2 (te := te) (tab := tab) (je := je) (ws := ws) (bs := bs) (wh := wh) (bh := bh) (wp := wp) (bp := bp)
      i 2 g r hr (fun f => ⟨37 + (37 + f.val), by omega⟩) (fun f => by simp only [Fin.val_two]; omega)]
  unfold pre2
  refine congrArg leaky (congrArg₂ (· + ·) ?_ rfl)
  obtain rfl | rfl | rfl : i = 0 ∨ i = 1 ∨ i = 2 := by omega
  · rw [if_pos rfl, if_neg (by decide), if_neg (by decide), add_zero, add_zero]
    rfl
  · rw [if_pos rfl, if_neg (by decide), if_neg (by decide), add_zero, zero_add]
    rfl
  · rw [if_pos rfl, if_neg (by decide), if_neg (by decide), zero_add, zero_add]
    rfl

/-- The filter embedding. -/
theorem filtE_eq (h : n.Of (col x b)) (g : Fin 37) :
    filtE x (scr0 wf ce oe) (scr1 wf bf) (scr2 wf2 bf2) (ix2 g b) = filt (weightsOf te tab ce oe je wf bf wf2 bf2 ws bs wh bh wp bp) (col x b) n g := by
  rw [filtE_apply, filt, Fin.sum_univ_three,
    filt2_eq (te := te) (tab := tab) (je := je) (ws := ws) (bs := bs) (wh := wh) (bh := bh) (wp := wp) (bp := bp)
      h 0 g _ (by simp),
    filt2_eq (te := te) (tab := tab) (je := je) (ws := ws) (bs := bs) (wh := wh) (bh := bh) (wp := wp) (bp := bp)
      h 1 g _ (by simp),
    filt2_eq (te := te) (tab := tab) (je := je) (ws := ws) (bs := bs) (wh := wh) (bh := bh) (wp := wp) (bp := bp)
      h 2 g _ (by simp)]

/-- Row `e` of histogram `i`. -/
theorem layS_hist (i : Fin 3) (e : Fin 32) (r : Fin 128) (hr : r.val = 32 * i.val + e.val) :
    layS (scr3 ws wh bh) xc r = hist1 (weightsOf te tab ce oe je wf bf wf2 bf2 ws bs wh bh wp bp) xc i e := by
  unfold layS hist1
  rw [scr3_bias ws wh bh i.val (by omega) e r hr, sum_cut 14 1151 rfl, sum_cut 150 1001 rfl (N := 1151), sum_threes,
    Finset.sum_eq_zero (s := (Finset.univ : Finset (Fin 14))) fun k _ => by
      rw [scr3_rest ws wh bh i.val (by omega) e r _ hr (by simp only []; omega), zero_mul],
    Finset.sum_eq_zero (s := (Finset.univ : Finset (Fin 1001))) fun k _ => by
      rw [scr3_rest ws wh bh i.val (by omega) e r _ hr (by simp only []; omega), zero_mul],
    zero_add, add_zero]
  refine congrArg₂ (· + ·) (Finset.sum_congr rfl fun c _ => ?_) rfl
  rw [Finset.sum_eq_single i]
  · rw [scr3_bin ws wh bh i.val i.val (by omega) (by omega) e c r _ hr rfl, if_pos rfl, mul_comm]
    exact congrArg (fun z => xc z * wh (ix2 e c)) (Fin.ext (by simp only []; omega))
  · intro j _ hj
    rw [scr3_bin ws wh bh i.val j.val (by omega) (by omega) e c r _ hr rfl, if_neg (fun q => hj (Fin.ext q.symm)),
      zero_mul]
  · exact fun h' => absurd (Finset.mem_univ _) h'

/-- Row `e` of the sample layer. -/
theorem layS_samp (e : Fin 32) (r : Fin 128) (hr : r.val = 96 + e.val) :
    layS (scr3 ws wh bh) xc r = samp (weightsOf te tab ce oe je wf bf wf2 bf2 ws bs wh bh wp bp) xc e := by
  unfold layS samp
  rw [scr3_sample_rest ws wh bh e r 1165 hr (Or.inr rfl), sum_cut 165 1000 rfl,
    Finset.sum_eq_zero (s := (Finset.univ : Finset (Fin 165))) fun k _ => by
      rw [scr3_sample_rest ws wh bh e r _ hr (by simp only []; omega), zero_mul],
    zero_add, add_zero]
  refine Finset.sum_congr rfl fun k _ => ?_
  rw [scr3_sample ws wh bh e k r _ hr rfl, mul_comm]
  rfl

/-- The histogram embedding. -/
theorem histE_eq (e : Fin 32) : histE x (scr3 ws wh bh) (ix2 e b) = hist (weightsOf te tab ce oe je wf bf wf2 bf2 ws bs wh bh wp bp) (col x b) e := by
  rw [histE_apply, hist, Fin.sum_univ_three,
    layS_hist (te := te) (tab := tab) (ce := ce) (oe := oe) (je := je) (wf := wf) (bf := bf) (wf2 := wf2) (bf2 := bf2)
      (bs := bs) (wp := wp) (bp := bp) 0 e _ (by simp),
    layS_hist (te := te) (tab := tab) (ce := ce) (oe := oe) (je := je) (wf := wf) (bf := bf) (wf2 := wf2) (bf2 := bf2)
      (bs := bs) (wp := wp) (bp := bp) 1 e _ (by simp),
    layS_hist (te := te) (tab := tab) (ce := ce) (oe := oe) (je := je) (wf := wf) (bf := bf) (wf2 := wf2) (bf2 := bf2)
      (bs := bs) (wp := wp) (bp := bp) 2 e _ (by simp)]

/-- The block's entry is the row's entry, where the table's row, the sample layer's bias and the last layer's weights
of both are finite. -/
theorem blockOut_eq (h : n.Of (col x b)) (o : Fin 165)
    (ht : ∀ k, tab (ix2 n.b k) ≠ (⊤ : EReal) ∧ tab (ix2 n.b k) ≠ (⊥ : EReal))
    (hb : ∀ k, bs (ix1 k) ≠ (⊤ : EReal) ∧ bs (ix1 k) ≠ (⊥ : EReal))
    (hw : ∀ k : Fin 32, wp (ix2 o ⟨101 + k.val, by omega⟩) ≠ (⊤ : EReal)
      ∧ wp (ix2 o ⟨101 + k.val, by omega⟩) ≠ (⊥ : EReal)) :
    blockOut x (scr0 wf ce oe) (scr1 wf bf) (scr2 wf2 bf2) (scr3 ws wh bh) (scr4 te tab je wp) (scr5 wp) (scr6 wp)
        (scr7 bs wp bp) (ix2 o b)
      = out (weightsOf te tab ce oe je wf bf wf2 bf2 ws bs wh bh wp bp) (col x b) n o := by
  rw [blockOut_apply h, scr4_type te tab je wp o n.t _ rfl, scr4_join te tab je wp o n.j _ rfl,
    scr4_table te tab je wp o n.b _ rfl, scr7_bias]
  unfold out
  refine congrArg leaky ?_
  have e5 : (∑ k : Fin 37, scr5 wp (ix2 o k) * filtE x (scr0 wf ce oe) (scr1 wf bf) (scr2 wf2 bf2) (ix2 k b) : EReal)
      = ∑ k : Fin 37, filt (weightsOf te tab ce oe je wf bf wf2 bf2 ws bs wh bh wp bp) (col x b) n k * wp (ix2 o ⟨32 + k.val, by omega⟩) :=
    Finset.sum_congr rfl fun k _ => by
      rw [scr5_apply, filtE_eq (te := te) (tab := tab) (je := je) (ws := ws) (bs := bs) (wh := wh) (bh := bh) (wp := wp)
        (bp := bp) h, mul_comm]
  have e6 : (∑ k : Fin 32, scr6 wp (ix2 o k) * sampE x (scr3 ws wh bh) (ix2 k b) : EReal)
      = ∑ k : Fin 32, wp (ix2 o ⟨101 + k.val, by omega⟩) * samp (weightsOf te tab ce oe je wf bf wf2 bf2 ws bs wh bh wp bp) (col x b) k :=
    Finset.sum_congr rfl fun k _ => by
      rw [scr6_apply, sampE_apply, layS_samp (te := te) (tab := tab) (ce := ce) (oe := oe) (je := je) (wf := wf) (bf := bf)
        (wf2 := wf2) (bf2 := bf2) (bs := bs) (wp := wp) (bp := bp) k _ rfl]
  have e7 : (∑ k : Fin 32, scr7 bs wp bp (ix2 o ⟨k.val, by omega⟩) * histE x (scr3 ws wh bh) (ix2 k b) : EReal)
      = ∑ k : Fin 32, hist (weightsOf te tab ce oe je wf bf wf2 bf2 ws bs wh bh wp bp) (col x b) k * wp (ix2 o ⟨133 + k.val, by omega⟩) :=
    Finset.sum_congr rfl fun k _ => by
      rw [scr7_w wp bs bp o k _ rfl, histE_eq (te := te) (tab := tab) (ce := ce) (oe := oe) (je := je) (wf := wf) (bf := bf)
        (wf2 := wf2) (bf2 := bf2) (bs := bs) (wp := wp) (bp := bp), mul_comm]
  have es : (∑ k : Fin 32, (tab (ix2 n.b k) + (samp (weightsOf te tab ce oe je wf bf wf2 bf2 ws bs wh bh wp bp) (col x b) k + bs (ix1 k))) * wp (ix2 o ⟨101 + k.val, by omega⟩)
        : EReal)
      = (∑ k : Fin 32, tab (ix2 n.b k) * wp (ix2 o ⟨101 + k.val, by omega⟩))
        + (∑ k : Fin 32, wp (ix2 o ⟨101 + k.val, by omega⟩) * samp (weightsOf te tab ce oe je wf bf wf2 bf2 ws bs wh bh wp bp) (col x b) k)
        + ∑ k : Fin 32, bs (ix1 k) * wp (ix2 o ⟨101 + k.val, by omega⟩) := by
    rw [← Finset.sum_add_distrib, ← Finset.sum_add_distrib]
    exact Finset.sum_congr rfl fun k _ => mul_out _ _ _ _ (ht k) (hb k) (hw k)
  rw [e5, e6, e7]
  unfold pre
  refine Eq.trans ?_ (congrArg (fun z => _ + (_ + (_ + (z + _))) + _) es.symm)
  have key : ∀ T J B F S H p c : EReal, T + J + B + F + S + (H + (p + c)) = T + (F + (J + (B + S + c + H))) + p :=
    fun T J B F S H p c => by ac_rfl
  exact key _ _ _ _ _ _ _ _

end Cert.KernelIdeal.Gen

end
-- ==== Proof.Take.lean ====
module

public import Idealize.ShloMosaic.Lib.Pointwise
public import Idealize.ShloMosaic.Lib.WordCmp

@[expose] public section

set_option maxRecDepth 16384

noncomputable section

open Idealize.ShloMosaic Idealize.ShloMosaic.WordCmp

namespace Cert.Take

/-! # Picking rows of a table by a word that holds a small number

The reference picks rows of its embedding tables by ids. An id that is a small number is not negative, is not
moved, passes the range test, and picks exactly its row. -/

/-- A small number's word, read as a signed number, is that number. -/
theorem toInt_ofNat (n : ℕ) (h : n < 2 ^ 31) : (BitVec.ofNat 32 n).toInt = (n : ℤ) := by
  rw [BitVec.toInt_eq_toNat_cond, BitVec.toNat_ofNat, Nat.mod_eq_of_lt (by omega)]
  rw [if_pos (by omega)]

/-- A small number's word is not negative, so it is not moved. -/
theorem kept (n : ℕ) (h : n < 2 ^ 31) (z : BitVec 32) :
    Scalar.select (IntOp.cmpi CmpIPredicate.slt (BitVec.ofNat 32 n) 0#32) z (BitVec.ofNat 32 n) = BitVec.ofNat 32 n := by
  have : IntOp.cmpi CmpIPredicate.slt (BitVec.ofNat 32 n) 0#32 = 0#1 := by
    rw [cmpi_slt_eq, toInt_ofNat n h]
    have h0 : ¬((n : ℤ) < (0#32 : BitVec 32).toInt) := by simp
    rw [decide_eq_false h0]
    rfl
  rw [this]
  rfl

/-- A number up to a bound passes the range test, which is taken over one place. -/
theorem in_range (n hi : ℕ) (h : hi < 2 ^ 31) (hn : n ≤ hi) :
    Finset.fold IntOp.andi 1#1 (fun _ : Fin 1 =>
      IntOp.andi (IntOp.cmpi CmpIPredicate.sge (BitVec.ofNat 32 n) 0#32)
        (IntOp.cmpi CmpIPredicate.sle (BitVec.ofNat 32 n) (BitVec.ofNat 32 hi))) Finset.univ = 1#1 := by
  have h1 : IntOp.cmpi CmpIPredicate.sge (BitVec.ofNat 32 n) 0#32 = 1#1 := by
    rw [cmpi_sge_eq, toInt_ofNat n (by omega)]
    simp
  have h2 : IntOp.cmpi CmpIPredicate.sle (BitVec.ofNat 32 n) (BitVec.ofNat 32 hi) = 1#1 := by
    rw [cmpi_sle_eq, toInt_ofNat n (by omega), toInt_ofNat hi h]
    simp [hn]
  rw [h1, h2, Finset.univ_unique, Finset.fold_singleton]
  rfl

/-- Taking whole rows: result axes 0 and 1 say which id, axis 2 walks the row. -/
abbrev rowsDims (N C B M : ℕ)
    (wf : GatherDims.WF ⟨2, ![N, C]⟩ ⟨3, ![B, M, 1]⟩ ⟨3, ![B, M, C]⟩ [2] [0] [] [0] [] 2 ![1, C]) :
    GatherDims ⟨2, ![N, C]⟩ ⟨3, ![B, M, 1]⟩ ⟨3, ![B, M, C]⟩ where
  offsetDims := [2]
  collapsedSliceDims := [0]
  operandBatchingDims := []
  startIndicesBatchingDims := []
  startIndexMap := [0]
  indexVectorDim := 2
  sliceSizes := ![1, C]
  wf := wf

/-- A row taken by an id that is the number `n` is row `n`. -/
theorem gather_row {α : Type} {N C B M : ℕ} (hM : N ≤ 2 ^ 31)
    (wf : GatherDims.WF ⟨2, ![N, C]⟩ ⟨3, ![B, M, 1]⟩ ⟨3, ![B, M, C]⟩ [2] [0] [] [0] [] 2 ![1, C])
    (x : (⟨2, ![N, C]⟩ : Shape).Idx → α) (idx : IVec ⟨3, ![B, M, 1]⟩ 32) (b : Fin B) (i : Fin M) (k : Fin C) (n : Fin N)
    (h : idx (ix3 b i 0) = BitVec.ofNat 32 n.val) :
    Host.gather (rowsDims N C B M wf) x idx (ix3 b i k) = x (ix2 n k) := by
  unfold Host.gather
  congr 1
  funext a
  refine Fin.ext ?_
  show (rowsDims N C B M wf).start (ix3 b i k) idx a + (rowsDims N C B M wf).batchCoord (ix3 b i k) a
      + (rowsDims N C B M wf).offCoord (ix3 b i k) a = _
  rw [GatherDims.batchCoord_eq_zero _ _ _ (fun h => by simp at h), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims N C B M wf).startIndexMap from List.mem_singleton.mpr rfl)]
    have hsi : (rowsDims N C B M wf).siIdx (ix3 b i k) ⟨List.idxOf (0 : Fin 2) (rowsDims N C B M wf).startIndexMap,
        List.idxOf_lt_length_iff.2 (List.mem_singleton.mpr rfl)⟩ = ix3 b i 0 := by
      funext c; refine Fin.ext ?_
      match c with
      | ⟨0, _⟩ => rfl
      | ⟨1, _⟩ => rfl
      | ⟨2, _⟩ => rfl
    rw [hsi, h, toInt_ofNat _ (by omega)]
    show min ((n.val : ℤ)).toNat (N - 1) = n.val
    rw [Int.toNat_natCast]
    omega
  · unfold GatherDims.start
    rw [dif_neg (by show (1 : Fin 2) ∉ [(0 : Fin 2)]; decide), Nat.zero_add]
    rfl

end Cert.Take

end
-- ==== Proof.RefValue.lean ====
module

public import proofs.«01_k».proof.Proof.Gen.ReferenceIdeal.Run
public import proofs.«01_k».proof.Proof.Spec
public import proofs.«01_k».proof.Proof.Take
public import Idealize.ShloMosaic.Lib.Tactic.CleanTypes

@[expose] public section

set_option maxRecDepth 16384

noncomputable section

open Idealize.ShloMosaic Idealize.SL.Sem Idealize.ShloMosaic.StableHlo

namespace Cert.ReferenceIdeal.Value

open Cert.Spec Cert.ReferenceIdeal

variable (V0 : Valuation τ sig (Elt Ideal))

/-! # What the reference computes for one row -/

/-- The reference's weights, by coordinates. -/
def weights : Weights where
  te a b := V0 (Proc.tc.devRef main_arg1) (ix2 a b)
  tab a b := V0 (Proc.tc.devRef main_arg2) (ix2 a b)
  ce a b := V0 (Proc.tc.devRef main_arg3) (ix2 a b)
  oe a b := V0 (Proc.tc.devRef main_arg4) (ix2 a b)
  je a b := V0 (Proc.tc.devRef main_arg5) (ix2 a b)
  wf a b := V0 (Proc.tc.devRef main_arg6) (ix2 a b)
  bf a := V0 (Proc.tc.devRef main_arg7) (ix1 a)
  wf2 a b := V0 (Proc.tc.devRef main_arg8) (ix2 a b)
  bf2 a := V0 (Proc.tc.devRef main_arg9) (ix1 a)
  ws a b := V0 (Proc.tc.devRef main_arg10) (ix2 a b)
  bs a := V0 (Proc.tc.devRef main_arg11) (ix1 a)
  wh a b := V0 (Proc.tc.devRef main_arg12) (ix2 a b)
  bh a := V0 (Proc.tc.devRef main_arg13) (ix1 a)
  wp a b := V0 (Proc.tc.devRef main_arg14) (ix2 a b)
  bp a := V0 (Proc.tc.devRef main_arg15) (ix1 a)

/-- Row `b` of the features. -/
def row (b : Fin 16384) : Fin 1165 → EReal := fun k => V0 (Proc.tc.devRef main_arg0) (ix2 b k)

variable {V0} {b : Fin 16384} {n : Ids}

/-- The word that picks the type's row. -/
theorem type_word (h : n.Of (row V0 b)) : res_main_call0_v5 V0 (ix3 b 0 0) = BitVec.ofNat 32 (n.t).val := by
  unfold res_main_call0_v5 res_main_v6
  clean_types
  pointwise []
  exact (congrArg (fun w : BitVec 32 => Scalar.select (IntOp.cmpi .slt w 0#32) (IntOp.addi w 20#32) w) (h.t)).trans
    (Take.kept _ (by omega) _)

/-- The word that picks the join's row. -/
theorem join_word (h : n.Of (row V0 b)) : res_main_call1_v5 V0 (ix3 b 0 0) = BitVec.ofNat 32 (n.j).val := by
  unfold res_main_call1_v5 res_main_v9
  clean_types
  pointwise []
  exact (congrArg (fun w : BitVec 32 => Scalar.select (IntOp.cmpi .slt w 0#32) (IntOp.addi w 40#32) w) (h.j)).trans
    (Take.kept _ (by omega) _)

/-- The word that picks the table's row. -/
theorem table_word (h : n.Of (row V0 b)) : res_main_call8_v5 V0 (ix3 b 0 0) = BitVec.ofNat 32 (n.b).val := by
  unfold res_main_call8_v5 res_main_v69 res_main_v5
  clean_types
  pointwise []
  exact (congrArg (fun w : BitVec 32 => Scalar.select (IntOp.cmpi .slt w 0#32) (IntOp.addi w 10#32) w) (h.b)).trans
    (Take.kept _ (by omega) _)

/-- The words that pick the columns' rows. -/
theorem column_word (h : n.Of (row V0 b)) (i : Fin 3) :
    res_main_call2_v5 V0 (ix3 b i 0) = BitVec.ofNat 32 (n.c i).val := by
  unfold res_main_call2_v5 res_main_v16 res_main_v13
  clean_types
  pointwise []
  exact (congrArg (fun w : BitVec 32 => Scalar.select (IntOp.cmpi .slt w 0#32) (IntOp.addi w 30#32) w) (h.c i)).trans
    (Take.kept _ (by omega) _)

/-- The words that pick the operations' rows. -/
theorem op_word (h : n.Of (row V0 b)) (i : Fin 3) :
    res_main_call3_v5 V0 (ix3 b i 0) = BitVec.ofNat 32 (n.o i).val := by
  unfold res_main_call3_v5 res_main_v19 res_main_v13
  clean_types
  pointwise []
  have e : (⟨2 + (3 + i.val), by omega⟩ : Fin 1165) = ⟨5 + i.val, by omega⟩ := Fin.ext (by simp only []; omega)
  simp only [e]
  exact (congrArg (fun w : BitVec 32 => Scalar.select (IntOp.cmpi .slt w 0#32) (IntOp.addi w 4#32) w) (h.o i)).trans
    (Take.kept _ (by omega) _)

/-- A filter before the first unit. -/
theorem v28_apply (h : n.Of (row V0 b)) (i : Fin 3) (f : Fin 37) :
    res_main_v28 V0 (ix3 b i f) = pre1 (weights V0) (row V0 b) n i f := by
  unfold res_main_v28 res_main_v13
  clean_types
  pointwise []
  have e0 : ∀ z : Fin 1, z = 0 := fun z => Subsingleton.elim _ _
  simp only [e0, column_word h i, op_word h i]
  rw [Take.in_range _ 29 (by omega) (by omega), Take.in_range _ 3 (by omega) (by omega)]
  unfold pre1
  refine congrArg₂ (· + ·) ?_ rfl
  rw [sum_cut 32 5 rfl, sum_cut 4 1 rfl (N := 5)]
  refine congrArg₂ (· + ·) (Finset.sum_congr rfl fun k _ => ?_)
    (congrArg₂ (· + ·) (Finset.sum_congr rfl fun k _ => ?_) ?_)
  · rw [dif_pos k.isLt]
    exact congrArg (· * _) (Take.gather_row (by omega) _ _ _ _ _ k _ (column_word h i))
  · rw [dif_neg (by simp), dif_pos (by simp)]
    have ek : (⟨32 + k.val - 32, by omega⟩ : Fin 4) = k := Fin.ext (by simp only []; omega)
    simp only [ek]
    exact congrArg (· * _) (Take.gather_row (by omega) _ _ _ _ _ k _ (op_word h i))
  · rw [Fin.sum_univ_one, dif_neg (by simp), dif_neg (by simp)]
    refine congrArg₂ (· * ·) (congrArg (fun z => V0 (Proc.tc.devRef main_arg0) (ix2 b z)) (Fin.ext ?_)) rfl
    simp only [Fin.val_zero]
    omega

/-- A filter before the second unit. -/
theorem v38_apply (h : n.Of (row V0 b)) (i : Fin 3) (g : Fin 37) :
    res_main_v38 V0 (ix3 b i g) = pre2 (weights V0) (row V0 b) n i g := by
  unfold res_main_v38
  clean_types
  pointwise []
  simp only [v28_apply h]
  rfl

/-- The sum of the mask. -/
theorem v49_apply : res_main_v49 V0 (ix1 b) = count (row V0 b) := by
  unfold res_main_v49 res_main_v3
  clean_types
  pointwise []
  rfl

/-- The mask's bit picks the number where the mask is not zero. -/
theorem v46_apply (y : EReal) (i : Fin 3) :
    Scalar.select (res_main_v46 V0 (ix2 b i)) y (id (constant (F := Ideal) S_ .f32 0#32) ix0) = masked (row V0 b) i y := by
  unfold res_main_v46 res_main_v3 id
  clean_types
  pointwise []
  rfl

set_option maxHeartbeats 1600000 in
/-- The last layer's input: the type's row, the filter embedding, the join's row, the table's row and sample, the
histogram embedding. -/
theorem v78_apply (h : n.Of (row V0 b)) (k : Fin 165) :
    res_main_v78 V0 (ix2 b k) = (if h1 : k.val < 32 then (weights V0).te n.t ⟨k.val, h1⟩
      else if h2 : k.val - 32 < 37 then filt (weights V0) (row V0 b) n ⟨k.val - 32, h2⟩
      else if h3 : k.val - 32 - 37 < 32 then (weights V0).je n.j ⟨k.val - 32 - 37, h3⟩
      else if h4 : k.val - 32 - 37 - 32 < 32 then
        (weights V0).tab n.b ⟨k.val - 32 - 37 - 32, h4⟩ + (samp (weights V0) (row V0 b) ⟨k.val - 32 - 37 - 32, h4⟩
          + (weights V0).bs ⟨k.val - 32 - 37 - 32, h4⟩)
      else hist (weights V0) (row V0 b) ⟨k.val - 32 - 37 - 32 - 32, by omega⟩ : EReal) := by
  unfold res_main_v78
  clean_types
  pointwise []
  have e0 : ∀ z : Fin 1, z = 0 := fun z => Subsingleton.elim _ _
  have it := Take.in_range (n.t).val 19 (by omega) (by omega)
  have ij := Take.in_range (n.j).val 39 (by omega) (by omega)
  have ib := Take.in_range (n.b).val 9 (by omega) (by omega)
  simp only [e0, type_word h, join_word h, table_word h, v38_apply h, v49_apply, v46_apply, it, ij, ib]
  by_cases h1 : k.val < 32
  · rw [dif_pos h1, dif_pos h1]
    exact Take.gather_row (by omega) _ _ _ _ _ _ _ (type_word h)
  rw [dif_neg h1, dif_neg h1]
  by_cases h2 : k.val - 32 < 37
  · rw [dif_pos h2, dif_pos h2]
    rfl
  rw [dif_neg h2, dif_neg h2]
  by_cases h3 : k.val - 32 - 37 < 32
  · rw [dif_pos h3, dif_pos h3]
    exact Take.gather_row (by omega) _ _ _ _ _ _ _ (join_word h)
  rw [dif_neg h3, dif_neg h3]
  by_cases h4 : k.val - 32 - 37 - 32 < 32
  · rw [dif_pos h4, dif_pos h4]
    refine congrArg₂ (· + ·) (Take.gather_row (by omega) _ _ _ _ _ _ _ (table_word h))
      (congrArg₂ (· + ·) (Finset.sum_congr rfl fun x _ => congrArg (· * _) ?_) rfl)
    unfold res_main_v5
    clean_types
    pointwise []
    exact congrArg (fun z => V0 (Proc.tc.devRef main_arg0) (ix2 b z)) (Fin.ext (by simp only []; omega))
  rw [dif_neg h4, dif_neg h4]
  rfl

/-- The last layer before its unit. -/
theorem v83_apply (h : n.Of (row V0 b)) (o : Fin 165) :
    res_main_v83 V0 (ix2 b o) = pre (weights V0) (row V0 b) n o := by
  unfold res_main_v83
  clean_types
  pointwise []
  simp only [v78_apply h]
  unfold pre
  refine congrArg₂ (· + ·) ?_ rfl
  rw [sum_cut 32 133 rfl, sum_cut 37 96 rfl (N := 133), sum_cut 32 64 rfl (N := 96), sum_cut 32 32 rfl (N := 64)]
  refine congrArg₂ (· + ·) (Finset.sum_congr rfl fun k _ => ?_)
    (congrArg₂ (· + ·) (Finset.sum_congr rfl fun k _ => ?_)
    (congrArg₂ (· + ·) (Finset.sum_congr rfl fun k _ => ?_)
    (congrArg₂ (· + ·) (Finset.sum_congr rfl fun k _ => ?_) (Finset.sum_congr rfl fun k _ => ?_))))
  · rw [dif_pos k.isLt]
    rfl
  · have ek : (⟨32 + k.val - 32, by omega⟩ : Fin 37) = k := Fin.ext (by simp only []; omega)
    rw [dif_neg (by simp), dif_pos (by simp)]
    simp only [ek]
    rfl
  · have ek : (⟨32 + (37 + k.val) - 32 - 37, by omega⟩ : Fin 32) = k := Fin.ext (by simp only []; omega)
    rw [dif_neg (by simp), dif_neg (by simp), dif_pos (by simp only []; omega)]
    simp only [ek]
    refine congrArg (_ * ·) (congrArg (fun z => V0 (Proc.tc.devRef main_arg14) (ix2 o z)) (Fin.ext ?_))
    simp only []
    omega
  · have ek : (⟨32 + (37 + (32 + k.val)) - 32 - 37 - 32, by omega⟩ : Fin 32) = k := Fin.ext (by simp only []; omega)
    rw [dif_neg (by simp), dif_neg (by simp), dif_neg (by simp only []; omega), dif_pos (by simp only []; omega)]
    simp only [ek]
    refine congrArg (_ * ·) (congrArg (fun z => V0 (Proc.tc.devRef main_arg14) (ix2 o z)) (Fin.ext ?_))
    simp only []
    omega
  · have ek : (⟨32 + (37 + (32 + (32 + k.val))) - 32 - 37 - 32 - 32, by omega⟩ : Fin 32) = k :=
      Fin.ext (by simp only []; omega)
    rw [dif_neg (by simp), dif_neg (by simp), dif_neg (by simp only []; omega), dif_neg (by simp only []; omega)]
    simp only [ek]
    refine congrArg (_ * ·) (congrArg (fun z => V0 (Proc.tc.devRef main_arg14) (ix2 o z)) (Fin.ext ?_))
    simp only []
    omega

variable (V0) in
/-- What the reference leaves in its result. -/
def resultVec : FVec (F := Ideal) S16384x165 .f32 :=
  select (cmpf .oge (res_main_v83 V0) (broadcastInDim S16384x165 ![] Gen.bcast_S_S16384x165 (constant S_ .f32 0x00000000#32)))
    (res_main_v83 V0)
    (mulf (broadcastInDim S16384x165 ![] Gen.bcast_S_S16384x165 (constant S_ .f32 0x3C23D70A#32)) (res_main_v83 V0))

/-- Each entry of the reference's result is the row's entry. -/
theorem result_apply (h : n.Of (row V0 b)) (o : Fin 165) :
    resultVec V0 (ix2 b o) = out (weights V0) (row V0 b) n o := by
  unfold resultVec
  clean_types
  pointwise []
  rw [v83_apply h]
  rfl

end Cert.ReferenceIdeal.Value

end
-- ==== Proof.Pre.lean ====
module

public import proofs.«01_k».proof.Proof.Gen.Pre_ids_and_finite
public import proofs.«01_k».proof.Proof.Spec
public import Idealize.ShloMosaic.Lib.ReduceAll
public import Idealize.ShloMosaic.Lib.WordCmp

@[expose] public section

set_option maxRecDepth 16384

noncomputable section

open Idealize.ShloMosaic Idealize.ShloMosaic.WordCmp

namespace Cert.Pre_ids_and_finite

open Cert.Spec Gen

/-! # What the precondition says of the arguments -/

/-- A word from zero up to a bound is a number below the bound. -/
theorem word_below (N : ℕ) (hN : N < 2 ^ 31) (w : BitVec 32) (h0 : IntOp.cmpi .sge w 0#32 = 1#1)
    (h1 : IntOp.cmpi .slt w (BitVec.ofNat 32 N) = 1#1) : ∃ k : Fin N, w = BitVec.ofNat 32 k.val := by
  rw [cmpi_sge_eq, ofBool_decide_eq_one_iff] at h0
  rw [cmpi_slt_eq, ofBool_decide_eq_one_iff] at h1
  have hz : (0#32).toInt = 0 := rfl
  have hn : (BitVec.ofNat 32 N).toInt = N := by
    rw [BitVec.toInt_eq_toNat_of_lt (by rw [BitVec.toNat_ofNat]; omega), BitVec.toNat_ofNat]
    omega
  rw [hz] at h0
  have hw : w.toInt = w.toNat := by
    rw [BitVec.toInt_eq_toNat_cond] at h0 ⊢
    split_ifs at h0 ⊢ <;> omega
  refine ⟨⟨w.toNat, by omega⟩, ?_⟩
  simp

/-- A number strictly between the infinities is neither. -/
theorem finite_of (y : EReal) (h0 : Ideal.cmp .ogt y (Ideal.ofBits FTy.f32 0xFF800000#32) = 1#1)
    (h1 : Ideal.cmp .olt y (Ideal.ofBits FTy.f32 0x7F800000#32) = 1#1) : y ≠ ⊤ ∧ y ≠ ⊥ := by
  have hb : Ideal.ofBits FTy.f32 0xFF800000#32 = ⊥ := by simp [Ideal.ofBits, Ideal.ieee]
  have ht : Ideal.ofBits FTy.f32 0x7F800000#32 = ⊤ := by simp [Ideal.ofBits, Ideal.ieee]
  rw [hb] at h0
  rw [ht] at h1
  simp only [Ideal.cmp, ofBool_decide_eq_one_iff] at h0 h1
  exact ⟨ne_of_lt h1, ne_of_gt h0⟩

variable (a0 : FVec Ideal S16384x1165 .f32) (a1 : FVec Ideal S20x32 .f32) (a2 : FVec Ideal S10x32 .f32)
  (a3 : FVec Ideal S30x32 .f32) (a4 : FVec Ideal S4x4 .f32) (a5 : FVec Ideal S40x32 .f32) (a6 : FVec Ideal S37x37 .f32)
  (a7 : FVec Ideal S37 .f32) (a8 : FVec Ideal S37x37 .f32) (a9 : FVec Ideal S37 .f32) (a10 : FVec Ideal S32x1000 .f32)
  (a11 : FVec Ideal S32 .f32) (a12 : FVec Ideal S32x50 .f32) (a13 : FVec Ideal S32 .f32) (a14 : FVec Ideal S165x165 .f32)
  (a15 : FVec Ideal S165 .f32)

/-- The empty shape has one index. -/
instance : Subsingleton (S_).Idx := ⟨fun a b => funext fun i => i.elim0⟩

/-- Where the precondition holds, every row's ids are in range, and the table's rows, the sample layer's bias and the
last layer's weights of both are finite. -/
theorem holds (h : fn (F := Ideal) a0 a1 a2 a3 a4 a5 a6 a7 a8 a9 a10 a11 a12 a13 a14 a15 = fun _ => 1#1) :
    (∀ b : Fin 16384, ∃ n : Ids, n.Of fun k => a0 (ix2 b k))
      ∧ (∀ (b : Fin 10) (k : Fin 32), a2 (ix2 b k) ≠ (⊤ : EReal) ∧ a2 (ix2 b k) ≠ (⊥ : EReal))
      ∧ (∀ k : Fin 32, a11 (ix1 k) ≠ (⊤ : EReal) ∧ a11 (ix1 k) ≠ (⊥ : EReal))
      ∧ (∀ (o : Fin 165) (k : Fin 32), a14 (ix2 o ⟨101 + k.val, by omega⟩) ≠ (⊤ : EReal)
          ∧ a14 (ix2 o ⟨101 + k.val, by omega⟩) ≠ (⊥ : EReal)) := by
  have h0 := congrFun h ix0
  unfold fn fn_part1 fn_part2 fn_part3 at h0
  dsimp only at h0
  obtain ⟨h0, pw⟩ := IntOp.andi_eq_one.1 h0
  obtain ⟨h0, ps⟩ := IntOp.andi_eq_one.1 h0
  obtain ⟨h0, pt⟩ := IntOp.andi_eq_one.1 h0
  obtain ⟨h0, pb⟩ := IntOp.andi_eq_one.1 h0
  obtain ⟨h0, po⟩ := IntOp.andi_eq_one.1 h0
  obtain ⟨h0, pc⟩ := IntOp.andi_eq_one.1 h0
  obtain ⟨p0, p1⟩ := IntOp.andi_eq_one.1 h0
  refine ⟨fun b => ?_, fun b k => ?_, fun k => ?_, fun o k => ?_⟩
  · have q0 := Host.reduce_andi_all _ _ _ _ _ p0 (ix2 b 0)
    have q1 := Host.reduce_andi_all _ _ _ _ _ p1 (ix2 b 0)
    have qb := Host.reduce_andi_all _ _ _ _ _ pb (ix2 b 0)
    have qc := fun i : Fin 3 => Host.reduce_andi_all _ _ _ _ _ pc (ix2 b i)
    have qo := fun i : Fin 3 => Host.reduce_andi_all _ _ _ _ _ po (ix2 b i)
    obtain ⟨g0, l0⟩ := IntOp.andi_eq_one.1 q0
    obtain ⟨g1, l1⟩ := IntOp.andi_eq_one.1 q1
    obtain ⟨gb, lb⟩ := IntOp.andi_eq_one.1 qb
    have e0 : extractStridedSlice S16384x1 ![0, 0] a0 slices_S16384x1165_S16384x1_0_0 (ix2 b 0) = a0 (ix2 b 0) := by
      pointwise []
    have e1 : extractStridedSlice S16384x1 ![0, 1] a0 slices_S16384x1165_S16384x1_0_1 (ix2 b 0) = a0 (ix2 b 1) := by
      pointwise []
    have eb : extractStridedSlice S16384x1 ![0, 164] a0 slices_S16384x1165_S16384x1_0_164 (ix2 b 0)
        = a0 (ix2 b 164) := by
      pointwise []
    have ec : ∀ i : Fin 3, extractStridedSlice S16384x3 ![0, 2] a0 slices_S16384x1165_S16384x3_0_2 (ix2 b i)
        = a0 (ix2 b ⟨2 + i.val, by omega⟩) := by
      intro i
      pointwise []
    have eo : ∀ i : Fin 3, extractStridedSlice S16384x3 ![0, 5] a0 slices_S16384x1165_S16384x3_0_5 (ix2 b i)
        = a0 (ix2 b ⟨5 + i.val, by omega⟩) := by
      intro i
      pointwise []
    obtain ⟨kt, ht⟩ := word_below 20 (by norm_num) _ g0 l0
    obtain ⟨kj, hj⟩ := word_below 40 (by norm_num) _ g1 l1
    obtain ⟨kb, hb⟩ := word_below 10 (by norm_num) _ gb lb
    choose kc hc using fun i => word_below 30 (by norm_num) _ (IntOp.andi_eq_one.1 (qc i)).1
      (IntOp.andi_eq_one.1 (qc i)).2
    choose ko ho using fun i => word_below 4 (by norm_num) _ (IntOp.andi_eq_one.1 (qo i)).1
      (IntOp.andi_eq_one.1 (qo i)).2
    exact ⟨⟨kt, kj, kc, ko, kb⟩,
      ⟨(congrArg (FloatOps.fptosi (F := Ideal) (φ := .f32) 32) e0).symm.trans ht,
        (congrArg (FloatOps.fptosi (F := Ideal) (φ := .f32) 32) e1).symm.trans hj,
        fun i => (congrArg (FloatOps.fptosi (F := Ideal) (φ := .f32) 32) (ec i)).symm.trans (hc i),
        fun i => (congrArg (FloatOps.fptosi (F := Ideal) (φ := .f32) 32) (eo i)).symm.trans (ho i),
        (congrArg (FloatOps.fptosi (F := Ideal) (φ := .f32) 32) eb).symm.trans hb⟩⟩
  · have q := Host.reduce_andi_all _ _ _ _ _ pt (ix2 b k)
    obtain ⟨g, l⟩ := IntOp.andi_eq_one.1 q
    exact finite_of _ g l
  · have q := Host.reduce_andi_all _ _ _ _ _ ps (ix1 k)
    obtain ⟨g, l⟩ := IntOp.andi_eq_one.1 q
    exact finite_of _ g l
  · have q := Host.reduce_andi_all _ _ _ _ _ pw (ix2 o k)
    obtain ⟨g, l⟩ := IntOp.andi_eq_one.1 q
    have e : extractStridedSlice S165x32 ![0, 101] a14 slices_S165x165_S165x32_0_101 (ix2 o k)
        = a14 (ix2 o ⟨101 + k.val, by omega⟩) := by
      pointwise []
    rw [← e]
    exact finite_of _ g l

end Cert.Pre_ids_and_finite

end
-- ==== Proof.Equation.lean ====
module

public import proofs.«01_k».proof.Proof.KernelRun
public import proofs.«01_k».proof.Proof.BlockValue
public import proofs.«01_k».proof.Proof.RefValue
public import proofs.«01_k».proof.Proof.Pre

@[expose] public section

set_option maxRecDepth 16384

noncomputable section

open Idealize.ShloMosaic Idealize.SL.Sem

namespace Cert.KernelIdeal.Gen

open Cert.Spec Cert.KernelIdeal Cert.ReferenceIdeal.Value

/-! # The two result arrays are one -/

variable (m : (ℓ : Loc nD τ sig) → Buf (Elt Ideal) ℓ) (c : Dev nD)
  (V0 : Valuation Cert.ReferenceIdeal.τ Cert.ReferenceIdeal.sig (Elt Ideal))

/-- The reference's weights are its arguments read by coordinates. -/
theorem weights_eq
    (e1 : (V0 (Proc.tc.devRef Cert.ReferenceIdeal.main_arg1) : Vec Ideal S20x32 .f32) = w1 m c)
    (e2 : (V0 (Proc.tc.devRef Cert.ReferenceIdeal.main_arg2) : Vec Ideal S10x32 .f32) = w2 m c)
    (e3 : (V0 (Proc.tc.devRef Cert.ReferenceIdeal.main_arg3) : Vec Ideal S30x32 .f32) = w3 m c)
    (e4 : (V0 (Proc.tc.devRef Cert.ReferenceIdeal.main_arg4) : Vec Ideal S4x4 .f32) = w4 m c)
    (e5 : (V0 (Proc.tc.devRef Cert.ReferenceIdeal.main_arg5) : Vec Ideal S40x32 .f32) = w5 m c)
    (e6 : (V0 (Proc.tc.devRef Cert.ReferenceIdeal.main_arg6) : Vec Ideal S37x37 .f32) = w6 m c)
    (e7 : (V0 (Proc.tc.devRef Cert.ReferenceIdeal.main_arg7) : Vec Ideal S37 .f32) = w7 m c)
    (e8 : (V0 (Proc.tc.devRef Cert.ReferenceIdeal.main_arg8) : Vec Ideal S37x37 .f32) = w8 m c)
    (e9 : (V0 (Proc.tc.devRef Cert.ReferenceIdeal.main_arg9) : Vec Ideal S37 .f32) = w9 m c)
    (e10 : (V0 (Proc.tc.devRef Cert.ReferenceIdeal.main_arg10) : Vec Ideal S32x1000 .f32) = w10 m c)
    (e11 : (V0 (Proc.tc.devRef Cert.ReferenceIdeal.main_arg11) : Vec Ideal S32 .f32) = w11 m c)
    (e12 : (V0 (Proc.tc.devRef Cert.ReferenceIdeal.main_arg12) : Vec Ideal S32x50 .f32) = w12 m c)
    (e13 : (V0 (Proc.tc.devRef Cert.ReferenceIdeal.main_arg13) : Vec Ideal S32 .f32) = w13 m c)
    (e14 : (V0 (Proc.tc.devRef Cert.ReferenceIdeal.main_arg14) : Vec Ideal S165x165 .f32) = w14 m c)
    (e15 : (V0 (Proc.tc.devRef Cert.ReferenceIdeal.main_arg15) : Vec Ideal S165 .f32) = w15 m c) :
    weights V0
      = weightsOf (w1 m c) (w2 m c) (w3 m c) (w4 m c) (w5 m c) (w6 m c) (w7 m c) (w8 m c)
        (w9 m c) (w10 m c) (w11 m c) (w12 m c) (w13 m c) (w14 m c) (w15 m c) := by
  rw [← e1, ← e2, ← e3, ← e4, ← e5, ← e6, ← e7, ← e8, ← e9, ← e10, ← e11, ← e12, ← e13, ← e14, ← e15]
  rfl

/-- Where a block's columns are the feature rows `2048 t + b`, both programs leave the same value there. -/
theorem entry_eq
    (e0 : (V0 (Proc.tc.devRef Cert.ReferenceIdeal.main_arg0) : Vec Ideal S16384x1165 .f32)
      = (m ((c.tc : Thread nD τ).loc main_arg0) : Vec Ideal S16384x1165 .f32))
    (ew : weights V0
      = weightsOf (w1 m c) (w2 m c) (w3 m c) (w4 m c) (w5 m c) (w6 m c) (w7 m c) (w8 m c)
        (w9 m c) (w10 m c) (w11 m c) (w12 m c) (w13 m c) (w14 m c) (w15 m c))
    (ids : ∀ b : Fin 16384, ∃ n : Ids,
      n.Of fun k => (m ((c.tc : Thread nD τ).loc main_arg0) : Vec Ideal S16384x1165 .f32) (ix2 b k))
    (ht : ∀ (b : Fin 10) (k : Fin 32), w2 m c (ix2 b k) ≠ (⊤ : EReal) ∧ w2 m c (ix2 b k) ≠ (⊥ : EReal))
    (hb : ∀ k : Fin 32, w11 m c (ix1 k) ≠ (⊤ : EReal) ∧ w11 m c (ix1 k) ≠ (⊥ : EReal))
    (hw : ∀ (o : Fin 165) (k : Fin 32), w14 m c (ix2 o ⟨101 + k.val, by omega⟩) ≠ (⊤ : EReal)
      ∧ w14 m c (ix2 o ⟨101 + k.val, by omega⟩) ≠ (⊥ : EReal))
    (t : Fin cfg0.N) (b : Fin 2048) (h : 2048 * t.val + b.val < 16384) (o : Fin 165) :
    resultOf m c (ix2 ⟨2048 * t.val + b.val, h⟩ o) = resultVec V0 (ix2 ⟨2048 * t.val + b.val, h⟩ o) := by
  obtain ⟨n, hn⟩ := ids ⟨2048 * t.val + b.val, h⟩
  have hc : col (iblk m c 0 t) b
      = fun k => (m ((c.tc : Thread nD τ).loc main_arg0) : Vec Ideal S16384x1165 .f32) (ix2 ⟨2048 * t.val + b.val, h⟩ k) :=
    funext fun k => window_0 m c t k b h
  have hr : row V0 ⟨2048 * t.val + b.val, h⟩
      = fun k => (m ((c.tc : Thread nD τ).loc main_arg0) : Vec Ideal S16384x1165 .f32) (ix2 ⟨2048 * t.val + b.val, h⟩ k) :=
    funext fun k => congrFun e0 _
  rw [resultOf_apply, blockOut_eq (n := n) (by rw [hc]; exact hn) o (fun k => ht n.b k) hb (fun k => hw o k),
    result_apply (n := n) (by rw [hr]; exact hn), hc, hr, ew]

/-- The result arrays are one. -/
theorem result_eq
    (e0 : (V0 (Proc.tc.devRef Cert.ReferenceIdeal.main_arg0) : Vec Ideal S16384x1165 .f32)
      = (m ((c.tc : Thread nD τ).loc main_arg0) : Vec Ideal S16384x1165 .f32))
    (ew : weights V0
      = weightsOf (w1 m c) (w2 m c) (w3 m c) (w4 m c) (w5 m c) (w6 m c) (w7 m c) (w8 m c)
        (w9 m c) (w10 m c) (w11 m c) (w12 m c) (w13 m c) (w14 m c) (w15 m c))
    (ids : ∀ b : Fin 16384, ∃ n : Ids,
      n.Of fun k => (m ((c.tc : Thread nD τ).loc main_arg0) : Vec Ideal S16384x1165 .f32) (ix2 b k))
    (ht : ∀ (b : Fin 10) (k : Fin 32), w2 m c (ix2 b k) ≠ (⊤ : EReal) ∧ w2 m c (ix2 b k) ≠ (⊥ : EReal))
    (hb : ∀ k : Fin 32, w11 m c (ix1 k) ≠ (⊤ : EReal) ∧ w11 m c (ix1 k) ≠ (⊥ : EReal))
    (hw : ∀ (o : Fin 165) (k : Fin 32), w14 m c (ix2 o ⟨101 + k.val, by omega⟩) ≠ (⊤ : EReal)
      ∧ w14 m c (ix2 o ⟨101 + k.val, by omega⟩) ≠ (⊥ : EReal)) :
    resultOf m c = resultVec V0 := by
  have hN : cfg0.N = 8 := by decide +kernel
  have all : ∀ (r : Fin 16384) (o : Fin 165), resultOf m c (ix2 r o) = resultVec V0 (ix2 r o) := fun r o => by
    have key := entry_eq m c V0 e0 ew ids ht hb hw ⟨r.val / 2048, by rw [hN]; omega⟩ ⟨r.val % 2048, by omega⟩
      (by simp only []; omega) o
    have hr : (⟨2048 * (r.val / 2048) + r.val % 2048, by omega⟩ : Fin 16384) = r := Fin.ext (by simp only []; omega)
    simp only [hr] at key
    exact key
  funext i
  exact (congrArg (resultOf m c) (eq_ix2 i)).trans ((all (i 0) (i 1)).trans (congrArg (resultVec V0) (eq_ix2 i)).symm)

end Cert.KernelIdeal.Gen

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ids_and_finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference leaves its arguments and semaphores as they were. -/
theorem frame_reference : @Cert.quiescent_ReferenceIdeal Cert.ReferenceIdeal.Gen.facts := fun m ρ _ =>
  (θ_run Cert.ReferenceIdeal.defs _ _).mono
    (fun r h => ⟨fun c => (h c).2, sem_eq_zero_of_no_sems (by decide) r.2⟩)
    (Cert.ReferenceIdeal.Value.run m ρ)

/-- On arguments that meet the precondition, the kernel and the reference leave the same result array. -/
theorem algebraic : @Cert.algebraic_KernelIdeal_ReferenceIdeal_pre_ids_and_finite Cert.KernelIdeal.Gen.facts
    Cert.ReferenceIdeal.Gen.facts Cert.Pre_ids_and_finite.Gen.facts := by
  intro m ρ m' ρ' pre same
  refine ⟨fun c => Cert.KernelIdeal.Gen.resultOf m c, Cert.KernelIdeal.Gen.run m ρ,
    (θ_run Cert.ReferenceIdeal.defs _ _).mono (fun r h c => ⟨(h c).1.trans ?_, (h c).2⟩)
      (Cert.ReferenceIdeal.Value.run m' ρ')⟩
  obtain ⟨e0, e1, e2, e3, e4, e5, e6, e7, e8, e9, e10, e11, e12, e13, e14, e15⟩ := same c
  obtain ⟨ids, ht, hb, hw⟩ := Cert.Pre_ids_and_finite.holds _ _ _ _ _ _ _ _ _ _ _ _ _ _ _ _ (pre c)
  exact (Cert.KernelIdeal.Gen.result_eq m c (StableHlo.launchContents m' c) e0
    (Cert.KernelIdeal.Gen.weights_eq m c (StableHlo.launchContents m' c) e1 e2 e3 e4 e5 e6 e7 e8 e9 e10 e11 e12 e13 e14 e15)
    ids ht hb hw).symm

/-- The certificate's claim. -/
theorem claim : Cert.Claim :=
  ⟨Cert.Kernel.Gen.facts, Cert.KernelIdeal.Gen.facts, Cert.ReferenceIdeal.Gen.facts, Cert.Pre_ids_and_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, algebraic⟩

end Cert.Proof

end
